-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_pre : Cert.Pre_pre.Facts),
    quiescent_Kernel (hKernel := hKernel) (hPre_in_range := hPre_in_range)
    ∧ quiescent_KernelIdeal (hKernelIdeal := hKernelIdeal) (hPre_in_range := hPre_in_range)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_in_range.lean ====
abbrev S8x2500 : Shape := ⟨2, ![8, 2500]⟩
abbrev S8x8921 : Shape := ⟨2, ![8, 8921]⟩
abbrev S50000x100 : Shape := ⟨2, ![50000, 100]⟩
abbrev S50x100x9 : Shape := ⟨3, ![50, 100, 9]⟩
abbrev S50 : Shape := ⟨1, ![50]⟩
abbrev S8921x50 : Shape := ⟨2, ![8921, 50]⟩
abbrev S8921 : Shape := ⟨1, ![8921]⟩
abbrev S_ : Shape := ⟨0, ![]⟩

class Facts : Prop where
  bcast_S_S8x2500 : S_.BroadcastsInDim S8x2500 (![] : Fin 0 → Fin S8x2500.rank)
  reducesTo_S8x2500_S_d0_1 : S8x2500.ReducesTo [0, 1] S_
  h_S_ : 0 < S_.numel

variable [Facts]

def fn {F : FTy → Type} [FloatOps F] (main_arg0 : IVec S8x2500 32) (main_arg1 : FVec F S8x8921 .f32) (main_arg2 : FVec F S50000x100 .f32) (main_arg3 : FVec F S50x100x9 .f32) (main_arg4 : FVec F S50 .f32) (main_arg5 : FVec F S8921x50 .f32) (main_arg6 : FVec F S8921x50 .f32) (main_arg7 : FVec F S8921 .f32) : IVec S_ 1 :=
  let main_c : IVec S_ 32 := constantI S_ 32 0#32
  let main_v0 : IVec S8x2500 32 := broadcastInDim S8x2500 ![] bcast_S_S8x2500 main_c
  let main_v1 : IVec S8x2500 1 := cmpi .sge main_arg0 main_v0
  let main_c_0 : IVec S_ 1 := constantI S_ 1 1#1
  let main_v2 : IVec S_ 1 := (fun x v => Host.reduce IntOp.andi x v reducesTo_S8x2500_S_d0_1 h_S_) main_v1 main_c_0
  let main_c_1 : IVec S_ 32 := constantI S_ 32 50000#32
  let main_v3 : IVec S8x2500 32 := broadcastInDim S8x2500 ![] bcast_S_S8x2500 main_c_1
  let main_v4 : IVec S8x2500 1 := cmpi .slt main_arg0 main_v3
  let main_c_2 : IVec S_ 1 := constantI S_ 1 1#1
  let main_v5 : IVec S_ 1 := (fun x v => Host.reduce IntOp.andi x v reducesTo_S8x2500_S_d0_1 h_S_) main_v4 main_c_2
  let main_v6 : IVec S_ 1 := andi main_v2 main_v5
  main_v6
-- ==== Pre_pre.lean ====
abbrev S8x2500 : Shape := ⟨2, ![8, 2500]⟩
abbrev S8x8921 : Shape := ⟨2, ![8, 8921]⟩
abbrev S50000x100 : Shape := ⟨2, ![50000, 100]⟩
abbrev S50x100x9 : Shape := ⟨3, ![50, 100, 9]⟩
abbrev S50 : Shape := ⟨1, ![50]⟩
abbrev S8921x50 : Shape := ⟨2, ![8921, 50]⟩
abbrev S8921 : Shape := ⟨1, ![8921]⟩
abbrev S_ : Shape := ⟨0, ![]⟩
abbrev S1x100 : Shape := ⟨2, ![1, 100]⟩
abbrev S100 : Shape := ⟨1, ![100]⟩

class Facts : Prop where
  bcast_S_S8x2500 : S_.BroadcastsInDim S8x2500 (![] : Fin 0 → Fin S8x2500.rank)
  reducesTo_S8x2500_S_d0_1 : S8x2500.ReducesTo [0, 1] S_
  h_S_ : 0 < S_.numel
  slices_S50000x100_S1x100_0_0 : S50000x100.Slices ![0, 0] S1x100
  shapeCasts_S1x100_S100 : S1x100.ShapeCasts S100
  bcast_S_S100 : S_.BroadcastsInDim S100 (![] : Fin 0 → Fin S100.rank)
  reducesTo_S100_S_d0 : S100.ReducesTo [0] S_
  bcast_S_S8921x50 : S_.BroadcastsInDim S8921x50 (![] : Fin 0 → Fin S8921x50.rank)
  reducesTo_S8921x50_S_d0_1 : S8921x50.ReducesTo [0, 1] S_

variable [Facts]

def fn_part1 {F : FTy → Type} [FloatOps F] (main_v12 : IVec S_ 1) (main_v15 : IVec S8921x50 1) (main_c_5 : IVec S_ 1) : IVec S_ 1 :=
  let main_v16 : IVec S_ 1 := (fun x v => Host.reduce IntOp.andi x v reducesTo_S8921x50_S_d0_1 h_S_) main_v15 main_c_5
  let main_v17 : IVec S_ 1 := andi main_v12 main_v16
  main_v17

def fn {F : FTy → Type} [FloatOps F] (main_arg0 : IVec S8x2500 32) (main_arg1 : FVec F S8x8921 .f32) (main_arg2 : FVec F S50000x100 .f32) (main_arg3 : FVec F S50x100x9 .f32) (main_arg4 : FVec F S50 .f32) (main_arg5 : FVec F S8921x50 .f32) (main_arg6 : FVec F S8921x50 .f32) (main_arg7 : FVec F S8921 .f32) : IVec S_ 1 :=
  let main_c : IVec S_ 32 := constantI S_ 32 0#32
  let main_v0 : IVec S8x2500 32 := broadcastInDim S8x2500 ![] bcast_S_S8x2500 main_c
  let main_v1 : IVec S8x2500 1 := cmpi .sge main_arg0 main_v0
  let main_c_0 : IVec S_ 1 := constantI S_ 1 1#1
  let main_v2 : IVec S_ 1 := (fun x v => Host.reduce IntOp.andi x v reducesTo_S8x2500_S_d0_1 h_S_) main_v1 main_c_0
  let main_c_1 : IVec S_ 32 := constantI S_ 32 50000#32
  let main_v3 : IVec S8x2500 32 := broadcastInDim S8x2500 ![] bcast_S_S8x2500 main_c_1
  let main_v4 : IVec S8x2500 1 := cmpi .slt main_arg0 main_v3
  let main_c_2 : IVec S_ 1 := constantI S_ 1 1#1
  let main_v5 : IVec S_ 1 := (fun x v => Host.reduce IntOp.andi x v reducesTo_S8x2500_S_d0_1 h_S_) main_v4 main_c_2
  let main_v6 : IVec S_ 1 := andi main_v2 main_v5
  let main_v7 : FVec F S1x100 .f32 := (extractStridedSlice S1x100 ![0, 0] · slices_S50000x100_S1x100_0_0) main_arg2
  let main_v8 : FVec F S100 .f32 := shapeCast S100 main_v7 shapeCasts_S1x100_S100
  let main_cst : FVec F S_ .f32 := constant S_ .f32 0x00000000#32
  let main_v9 : FVec F S100 .f32 := broadcastInDim S100 ![] bcast_S_S100 main_cst
  let main_v10 : IVec S100 1 := cmpf .oeq main_v8 main_v9
  let main_c_3 : IVec S_ 1 := constantI S_ 1 1#1
  let main_v11 : IVec S_ 1 := (fun x v => Host.reduce IntOp.andi x v reducesTo_S100_S_d0 h_S_) main_v10 main_c_3
  let main_v12 : IVec S_ 1 := andi main_v6 main_v11
  let main_v13 : FVec F S8921x50 .f32 := Host.absf main_arg5
  let main_cst_4 : FVec F S_ .f32 := constant S_ .f32 0x7F800000#32
  let main_v14 : FVec F S8921x50 .f32 := broadcastInDim S8921x50 ![] bcast_S_S8921x50 main_cst_4
  let main_v15 : IVec S8921x50 1 := cmpf .olt main_v13 main_v14
  let main_c_5 : IVec S_ 1 := constantI S_ 1 1#1
  fn_part1 (F := F) main_v12 main_v15 main_c_5
-- ==== Kernel.lean ====
abbrev S8x2500 : Shape := ⟨2, ![8, 2500]⟩
abbrev S8x8921 : Shape := ⟨2, ![8, 8921]⟩
abbrev S50000x100 : Shape := ⟨2, ![50000, 100]⟩
abbrev S50x100x9 : Shape := ⟨3, ![50, 100, 9]⟩
abbrev S50 : Shape := ⟨1, ![50]⟩
abbrev S8921x50 : Shape := ⟨2, ![8921, 50]⟩
abbrev S8921 : Shape := ⟨1, ![8921]⟩
abbrev S_ : Shape := ⟨0, ![]⟩
abbrev S8x2528 : Shape := ⟨2, ![8, 2528]⟩
abbrev S8x1x2528 : Shape := ⟨3, ![8, 1, 2528]⟩
abbrev S9x100x50 : Shape := ⟨3, ![9, 100, 50]⟩
abbrev S1x50 : Shape := ⟨2, ![1, 50]⟩
abbrev S8x2500x56 : Shape := ⟨3, ![8, 2500, 56]⟩
abbrev S1x1x2528 : Shape := ⟨3, ![1, 1, 2528]⟩
abbrev S1x2500x56 : Shape := ⟨3, ![1, 2500, 56]⟩
abbrev S2528x100 : Shape := ⟨2, ![2528, 100]⟩
abbrev S1x1x1 : Shape := ⟨3, ![1, 1, 1]⟩
abbrev S1x100 : Shape := ⟨2, ![1, 100]⟩
abbrev S16x100 : Shape := ⟨2, ![16, 100]⟩
abbrev S2500x100 : Shape := ⟨2, ![2500, 100]⟩
abbrev S1x100x50 : Shape := ⟨3, ![1, 100, 50]⟩
abbrev S100x50 : Shape := ⟨2, ![100, 50]⟩
abbrev S2500x50 : Shape := ⟨2, ![2500, 50]⟩
abbrev S2500x6 : Shape := ⟨2, ![2500, 6]⟩
abbrev S2500x56 : Shape := ⟨2, ![2500, 56]⟩
abbrev S9216x50 : Shape := ⟨2, ![9216, 50]⟩
abbrev S50x9216 : Shape := ⟨2, ![50, 9216]⟩
abbrev S9216 : Shape := ⟨1, ![9216]⟩
abbrev S1x9216 : Shape := ⟨2, ![1, 9216]⟩
abbrev S6x9216 : Shape := ⟨2, ![6, 9216]⟩
abbrev S7x9216 : Shape := ⟨2, ![7, 9216]⟩
abbrev S120x9216 : Shape := ⟨2, ![120, 9216]⟩
abbrev S8x9x1x1024 : Shape := ⟨4, ![8, 9, 1, 1024]⟩
abbrev S1x1x1x1024 : Shape := ⟨4, ![1, 1, 1, 1024]⟩
abbrev S56x1024 : Shape := ⟨2, ![56, 1024]⟩
abbrev S1x1024 : Shape := ⟨2, ![1, 1024]⟩
abbrev S2500x1024 : Shape := ⟨2, ![2500, 1024]⟩
abbrev S1024 : Shape := ⟨1, ![1024]⟩
abbrev S8x9216 : Shape := ⟨2, ![8, 9216]⟩
abbrev S1x1 : Shape := ⟨2, ![1, 1]⟩
abbrev S1x8x8921 : Shape := ⟨3, ![1, 8, 8921]⟩
abbrev S1 : Shape := ⟨1, ![1]⟩

abbrev nBuf : Space → Nat
  | .hbm => 38
  | .vmem => 12
  | .smem => 3
  | _ => 0

abbrev bufTy : (tb : Table) → Fin (tcTables nBuf tb) → BufTy
  | .hbm, ⟨0, _⟩ => ⟨S8x2500, .i32⟩
  | .hbm, ⟨1, _⟩ => ⟨S8x8921, .f32⟩
  | .hbm, ⟨2, _⟩ => ⟨S50000x100, .f32⟩
  | .hbm, ⟨3, _⟩ => ⟨S50x100x9, .f32⟩
  | .hbm, ⟨4, _⟩ => ⟨S50, .f32⟩
  | .hbm, ⟨5, _⟩ => ⟨S8921x50, .f32⟩
  | .hbm, ⟨6, _⟩ => ⟨S8921x50, .f32⟩
  | .hbm, ⟨7, _⟩ => ⟨S8921, .f32⟩
  | .hbm, ⟨8, _⟩ => ⟨S_, .i32⟩
  | .hbm, ⟨9, _⟩ => ⟨S_, .i32⟩
  | .hbm, ⟨10, _⟩ => ⟨S8x2528, .i32⟩
  | .hbm, ⟨11, _⟩ => ⟨S8x1x2528, .i32⟩
  | .hbm, ⟨12, _⟩ => ⟨S9x100x50, .f32⟩
  | .hbm, ⟨13, _⟩ => ⟨S1x50, .f32⟩
  | .hbm, ⟨14, _⟩ => ⟨S8x2500x56, .bf16⟩
  | .hbm, ⟨15, _⟩ => ⟨S_, .i32⟩
  | .hbm, ⟨16, _⟩ => ⟨S_, .f32⟩
  | .hbm, ⟨17, _⟩ => ⟨S9216x50, .f32⟩
  | .hbm, ⟨18, _⟩ => ⟨S50x9216, .f32⟩
  | .hbm, ⟨19, _⟩ => ⟨S_, .i32⟩
  | .hbm, ⟨20, _⟩ => ⟨S_, .f32⟩
  | .hbm, ⟨21, _⟩ => ⟨S9216x50, .f32⟩
  | .hbm, ⟨22, _⟩ => ⟨S50x9216, .f32⟩
  | .hbm, ⟨23, _⟩ => ⟨S_, .i32⟩
  | .hbm, ⟨24, _⟩ => ⟨S_, .f32⟩
  | .hbm, ⟨25, _⟩ => ⟨S9216, .f32⟩
  | .hbm, ⟨26, _⟩ => ⟨S1x9216, .f32⟩
  | .hbm, ⟨27, _⟩ => ⟨S_, .f32⟩
  | .hbm, ⟨28, _⟩ => ⟨S6x9216, .f32⟩
  | .hbm, ⟨29, _⟩ => ⟨S_, .f32⟩
  | .hbm, ⟨30, _⟩ => ⟨S7x9216, .f32⟩
  | .hbm, ⟨31, _⟩ => ⟨S120x9216, .f32⟩
  | .hbm, ⟨32, _⟩ => ⟨S120x9216, .bf16⟩
  | .hbm, ⟨33, _⟩ => ⟨S8x9x1x1024, .f32⟩
  | .hbm, ⟨34, _⟩ => ⟨S8x9216, .f32⟩
  | .hbm, ⟨35, _⟩ => ⟨S8x8921, .f32⟩
  | .hbm, ⟨36, _⟩ => ⟨S1x1, .f32⟩
  | .hbm, ⟨37, _⟩ => ⟨S_, .f32⟩
  | .local _ .vmem, ⟨0, _⟩ => ⟨S50000x100, .f32⟩
  | .local _ .vmem, ⟨1, _⟩ => ⟨S9x100x50, .f32⟩
  | .local _ .vmem, ⟨2, _⟩ => ⟨S1x50, .f32⟩
  | .local _ .vmem, ⟨3, _⟩ => ⟨S1x2500x56, .bf16⟩
  | .local _ .vmem, ⟨4, _⟩ => ⟨S1x2500x56, .bf16⟩
  | .local _ .vmem, ⟨5, _⟩ => ⟨S2528x100, .f32⟩
  | .local _ .vmem, ⟨6, _⟩ => ⟨S8x2500x56, .bf16⟩
  | .local _ .vmem, ⟨7, _⟩ => ⟨S120x9216, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S8x8921, .f32⟩
  | .local _ .vmem, ⟨11, _⟩ => ⟨S8x8921, .f32⟩
  | .local _ .smem, ⟨0, _⟩ => ⟨S1x1x2528, .i32⟩
  | .local _ .smem, ⟨1, _⟩ => ⟨S1x1x2528, .i32⟩
  | .local _ .smem, ⟨2, _⟩ => ⟨S1x1, .f32⟩
  | _, _ => ⟨S8x2500, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_call3_v0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc0_stg0_0 : Ref sig .tc := ⟨.smem, 0, rfl⟩
abbrev cc0_stg0_1 : Ref sig .tc := ⟨.smem, 1, rfl⟩
abbrev cc2_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c79_i32 : BitVec 32 := 79#32
  let v0 : BitVec 32 := Scalar.addi c0_i32 c79_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  v57
def k0_off1 (k0_t1 : Fin k0_t1_loop.trips) : Fin 3 → Nat :=
  let c0_37 : Index := 0#32
  let c0_38 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_35 : BitVec 32 := 0#32
  let v59 : BitVec 32 := Scalar.addi v58 c0_i32_35
  let c0_i32_36 : BitVec 32 := 0#32
  let v60 : BitVec 32 := Scalar.addi v59 c0_i32_36
  let v61 : Index := Scalar.indexCast v60
  ![0, 0, v61.toNat]
def k0_off2 (v62 : BitVec 32) : Fin 2 → Nat :=
  let v63 : Index := Scalar.indexCast v62
  let c0_39 : Index := 0#32
  ![v63.toNat, 0]

def k0_chk1 (v62 : BitVec 32) : Prop :=
  (∀ a, (k0_off2 v62) a + S1x100.size a ≤ S50000x100.size a)
theorem k0_off2_inb : ∀ (v62 : BitVec 32) (k0_hw1 : k0_chk1 v62), ∀ a, (k0_off2 v62) a + S1x100.size a ≤ S50000x100.size a := fun v62 k0_hw1 => k0_hw1

def k0_off3 (k0_t1 : Fin k0_t1_loop.trips) : Fin 3 → Nat :=
  let c0_42 : Index := 0#32
  let c0_43 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_40 : BitVec 32 := 0#32
  let v65 : BitVec 32 := Scalar.addi v58 c0_i32_40
  let c1_i32_41 : BitVec 32 := 1#32
  let v66 : BitVec 32 := Scalar.addi v65 c1_i32_41
  let v67 : Index := Scalar.indexCast v66
  ![0, 0, v67.toNat]
def k0_off4 (v68 : BitVec 32) : Fin 2 → Nat :=
  let v69 : Index := Scalar.indexCast v68
  let c0_44 : Index := 0#32
  ![v69.toNat, 0]

def k0_chk2 (v68 : BitVec 32) : Prop :=
  (∀ a, (k0_off4 v68) a + S1x100.size a ≤ S50000x100.size a)
theorem k0_off4_inb : ∀ (v68 : BitVec 32) (k0_hw2 : k0_chk2 v68), ∀ a, (k0_off4 v68) a + S1x100.size a ≤ S50000x100.size a := fun v68 k0_hw2 => k0_hw2

def k0_off5 (k0_t1 : Fin k0_t1_loop.trips) : Fin 3 → Nat :=
  let c0_46 : Index := 0#32
  let c0_47 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_45 : BitVec 32 := 0#32
  let v71 : BitVec 32 := Scalar.addi v58 c0_i32_45
  let c2_i32 : BitVec 32 := 2#32
  let v72 : BitVec 32 := Scalar.addi v71 c2_i32
  let v73 : Index := Scalar.indexCast v72
  ![0, 0, v73.toNat]
def k0_off6 (v74 : BitVec 32) : Fin 2 → Nat :=
  let v75 : Index := Scalar.indexCast v74
  let c0_48 : Index := 0#32
  ![v75.toNat, 0]

def k0_chk3 (v74 : BitVec 32) : Prop :=
  (∀ a, (k0_off6 v74) a + S1x100.size a ≤ S50000x100.size a)
theorem k0_off6_inb : ∀ (v74 : BitVec 32) (k0_hw3 : k0_chk3 v74), ∀ a, (k0_off6 v74) a + S1x100.size a ≤ S50000x100.size a := fun v74 k0_hw3 => k0_hw3

def k0_off7 (k0_t1 : Fin k0_t1_loop.trips) : Fin 3 → Nat :=
  let c0_50 : Index := 0#32
  let c0_51 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_49 : BitVec 32 := 0#32
  let v77 : BitVec 32 := Scalar.addi v58 c0_i32_49
  let c3_i32 : BitVec 32 := 3#32
  let v78 : BitVec 32 := Scalar.addi v77 c3_i32
  let v79 : Index := Scalar.indexCast v78
  ![0, 0, v79.toNat]
def k0_off8 (v80 : BitVec 32) : Fin 2 → Nat :=
  let v81 : Index := Scalar.indexCast v80
  let c0_52 : Index := 0#32
  ![v81.toNat, 0]

def k0_chk4 (v80 : BitVec 32) : Prop :=
  (∀ a, (k0_off8 v80) a + S1x100.size a ≤ S50000x100.size a)
theorem k0_off8_inb : ∀ (v80 : BitVec 32) (k0_hw4 : k0_chk4 v80), ∀ a, (k0_off8 v80) a + S1x100.size a ≤ S50000x100.size a := fun v80 k0_hw4 => k0_hw4

def k0_off9 (k0_t1 : Fin k0_t1_loop.trips) : Fin 3 → Nat :=
  let c0_54 : Index := 0#32
  let c0_55 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_53 : BitVec 32 := 0#32
  let v83 : BitVec 32 := Scalar.addi v58 c0_i32_53
  let c4_i32 : BitVec 32 := 4#32
  let v84 : BitVec 32 := Scalar.addi v83 c4_i32
  let v85 : Index := Scalar.indexCast v84
  ![0, 0, v85.toNat]
def k0_off10 (v86 : BitVec 32) : Fin 2 → Nat :=
  let v87 : Index := Scalar.indexCast v86
  let c0_56 : Index := 0#32
  ![v87.toNat, 0]

def k0_chk5 (v86 : BitVec 32) : Prop :=
  (∀ a, (k0_off10 v86) a + S1x100.size a ≤ S50000x100.size a)
theorem k0_off10_inb : ∀ (v86 : BitVec 32) (k0_hw5 : k0_chk5 v86), ∀ a, (k0_off10 v86) a + S1x100.size a ≤ S50000x100.size a := fun v86 k0_hw5 => k0_hw5

def k0_off11 (k0_t1 : Fin k0_t1_loop.trips) : Fin 3 → Nat :=
  let c0_58 : Index := 0#32
  let c0_59 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_57 : BitVec 32 := 0#32
  let v89 : BitVec 32 := Scalar.addi v58 c0_i32_57
  let c5_i32 : BitVec 32 := 5#32
  let v90 : BitVec 32 := Scalar.addi v89 c5_i32
  let v91 : Index := Scalar.indexCast v90
  ![0, 0, v91.toNat]
def k0_off12 (v92 : BitVec 32) : Fin 2 → Nat :=
  let v93 : Index := Scalar.indexCast v92
  let c0_60 : Index := 0#32
  ![v93.toNat, 0]

def k0_chk6 (v92 : BitVec 32) : Prop :=
  (∀ a, (k0_off12 v92) a + S1x100.size a ≤ S50000x100.size a)
theorem k0_off12_inb : ∀ (v92 : BitVec 32) (k0_hw6 : k0_chk6 v92), ∀ a, (k0_off12 v92) a + S1x100.size a ≤ S50000x100.size a := fun v92 k0_hw6 => k0_hw6

def k0_off13 (k0_t1 : Fin k0_t1_loop.trips) : Fin 3 → Nat :=
  let c0_62 : Index := 0#32
  let c0_63 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_61 : BitVec 32 := 0#32
  let v95 : BitVec 32 := Scalar.addi v58 c0_i32_61
  let c6_i32 : BitVec 32 := 6#32
  let v96 : BitVec 32 := Scalar.addi v95 c6_i32
  let v97 : Index := Scalar.indexCast v96
  ![0, 0, v97.toNat]
def k0_off14 (v98 : BitVec 32) : Fin 2 → Nat :=
  let v99 : Index := Scalar.indexCast v98
  let c0_64 : Index := 0#32
  ![v99.toNat, 0]

def k0_chk7 (v98 : BitVec 32) : Prop :=
  (∀ a, (k0_off14 v98) a + S1x100.size a ≤ S50000x100.size a)
theorem k0_off14_inb : ∀ (v98 : BitVec 32) (k0_hw7 : k0_chk7 v98), ∀ a, (k0_off14 v98) a + S1x100.size a ≤ S50000x100.size a := fun v98 k0_hw7 => k0_hw7

def k0_off15 (k0_t1 : Fin k0_t1_loop.trips) : Fin 3 → Nat :=
  let c0_66 : Index := 0#32
  let c0_67 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_65 : BitVec 32 := 0#32
  let v101 : BitVec 32 := Scalar.addi v58 c0_i32_65
  let c7_i32 : BitVec 32 := 7#32
  let v102 : BitVec 32 := Scalar.addi v101 c7_i32
  let v103 : Index := Scalar.indexCast v102
  ![0, 0, v103.toNat]
def k0_off16 (v104 : BitVec 32) : Fin 2 → Nat :=
  let v105 : Index := Scalar.indexCast v104
  let c0_68 : Index := 0#32
  ![v105.toNat, 0]

def k0_chk8 (v104 : BitVec 32) : Prop :=
  (∀ a, (k0_off16 v104) a + S1x100.size a ≤ S50000x100.size a)
theorem k0_off16_inb : ∀ (v104 : BitVec 32) (k0_hw8 : k0_chk8 v104), ∀ a, (k0_off16 v104) a + S1x100.size a ≤ S50000x100.size a := fun v104 k0_hw8 => k0_hw8

def k0_off17 (k0_t1 : Fin k0_t1_loop.trips) : Fin 3 → Nat :=
  let c0_70 : Index := 0#32
  let c0_71 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_69 : BitVec 32 := 0#32
  let v107 : BitVec 32 := Scalar.addi v58 c0_i32_69
  let c8_i32 : BitVec 32 := 8#32
  let v108 : BitVec 32 := Scalar.addi v107 c8_i32
  let v109 : Index := Scalar.indexCast v108
  ![0, 0, v109.toNat]
def k0_off18 (v110 : BitVec 32) : Fin 2 → Nat :=
  let v111 : Index := Scalar.indexCast v110
  let c0_72 : Index := 0#32
  ![v111.toNat, 0]

def k0_chk9 (v110 : BitVec 32) : Prop :=
  (∀ a, (k0_off18 v110) a + S1x100.size a ≤ S50000x100.size a)
theorem k0_off18_inb : ∀ (v110 : BitVec 32) (k0_hw9 : k0_chk9 v110), ∀ a, (k0_off18 v110) a + S1x100.size a ≤ S50000x100.size a := fun v110 k0_hw9 => k0_hw9

def k0_off19 (k0_t1 : Fin k0_t1_loop.trips) : Fin 3 → Nat :=
  let c0_74 : Index := 0#32
  let c0_75 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_73 : BitVec 32 := 0#32
  let v113 : BitVec 32 := Scalar.addi v58 c0_i32_73
  let c9_i32 : BitVec 32 := 9#32
  let v114 : BitVec 32 := Scalar.addi v113 c9_i32
  let v115 : Index := Scalar.indexCast v114
  ![0, 0, v115.toNat]
def k0_off20 (v116 : BitVec 32) : Fin 2 → Nat :=
  let v117 : Index := Scalar.indexCast v116
  let c0_76 : Index := 0#32
  ![v117.toNat, 0]

def k0_chk10 (v116 : BitVec 32) : Prop :=
  (∀ a, (k0_off20 v116) a + S1x100.size a ≤ S50000x100.size a)
theorem k0_off20_inb : ∀ (v116 : BitVec 32) (k0_hw10 : k0_chk10 v116), ∀ a, (k0_off20 v116) a + S1x100.size a ≤ S50000x100.size a := fun v116 k0_hw10 => k0_hw10

def k0_off21 (k0_t1 : Fin k0_t1_loop.trips) : Fin 3 → Nat :=
  let c0_78 : Index := 0#32
  let c0_79 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_77 : BitVec 32 := 0#32
  let v119 : BitVec 32 := Scalar.addi v58 c0_i32_77
  let c10_i32 : BitVec 32 := 10#32
  let v120 : BitVec 32 := Scalar.addi v119 c10_i32
  let v121 : Index := Scalar.indexCast v120
  ![0, 0, v121.toNat]
def k0_off22 (v122 : BitVec 32) : Fin 2 → Nat :=
  let v123 : Index := Scalar.indexCast v122
  let c0_80 : Index := 0#32
  ![v123.toNat, 0]

def k0_chk11 (v122 : BitVec 32) : Prop :=
  (∀ a, (k0_off22 v122) a + S1x100.size a ≤ S50000x100.size a)
theorem k0_off22_inb : ∀ (v122 : BitVec 32) (k0_hw11 : k0_chk11 v122), ∀ a, (k0_off22 v122) a + S1x100.size a ≤ S50000x100.size a := fun v122 k0_hw11 => k0_hw11

def k0_off23 (k0_t1 : Fin k0_t1_loop.trips) : Fin 3 → Nat :=
  let c0_82 : Index := 0#32
  let c0_83 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_81 : BitVec 32 := 0#32
  let v125 : BitVec 32 := Scalar.addi v58 c0_i32_81
  let c11_i32 : BitVec 32 := 11#32
  let v126 : BitVec 32 := Scalar.addi v125 c11_i32
  let v127 : Index := Scalar.indexCast v126
  ![0, 0, v127.toNat]
def k0_off24 (v128 : BitVec 32) : Fin 2 → Nat :=
  let v129 : Index := Scalar.indexCast v128
  let c0_84 : Index := 0#32
  ![v129.toNat, 0]

def k0_chk12 (v128 : BitVec 32) : Prop :=
  (∀ a, (k0_off24 v128) a + S1x100.size a ≤ S50000x100.size a)
theorem k0_off24_inb : ∀ (v128 : BitVec 32) (k0_hw12 : k0_chk12 v128), ∀ a, (k0_off24 v128) a + S1x100.size a ≤ S50000x100.size a := fun v128 k0_hw12 => k0_hw12

def k0_off25 (k0_t1 : Fin k0_t1_loop.trips) : Fin 3 → Nat :=
  let c0_86 : Index := 0#32
  let c0_87 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_85 : BitVec 32 := 0#32
  let v131 : BitVec 32 := Scalar.addi v58 c0_i32_85
  let c12_i32 : BitVec 32 := 12#32
  let v132 : BitVec 32 := Scalar.addi v131 c12_i32
  let v133 : Index := Scalar.indexCast v132
  ![0, 0, v133.toNat]
def k0_off26 (v134 : BitVec 32) : Fin 2 → Nat :=
  let v135 : Index := Scalar.indexCast v134
  let c0_88 : Index := 0#32
  ![v135.toNat, 0]

def k0_chk13 (v134 : BitVec 32) : Prop :=
  (∀ a, (k0_off26 v134) a + S1x100.size a ≤ S50000x100.size a)
theorem k0_off26_inb : ∀ (v134 : BitVec 32) (k0_hw13 : k0_chk13 v134), ∀ a, (k0_off26 v134) a + S1x100.size a ≤ S50000x100.size a := fun v134 k0_hw13 => k0_hw13

def k0_off27 (k0_t1 : Fin k0_t1_loop.trips) : Fin 3 → Nat :=
  let c0_90 : Index := 0#32
  let c0_91 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_89 : BitVec 32 := 0#32
  let v137 : BitVec 32 := Scalar.addi v58 c0_i32_89
  let c13_i32 : BitVec 32 := 13#32
  let v138 : BitVec 32 := Scalar.addi v137 c13_i32
  let v139 : Index := Scalar.indexCast v138
  ![0, 0, v139.toNat]
def k0_off28 (v140 : BitVec 32) : Fin 2 → Nat :=
  let v141 : Index := Scalar.indexCast v140
  let c0_92 : Index := 0#32
  ![v141.toNat, 0]

def k0_chk14 (v140 : BitVec 32) : Prop :=
  (∀ a, (k0_off28 v140) a + S1x100.size a ≤ S50000x100.size a)
theorem k0_off28_inb : ∀ (v140 : BitVec 32) (k0_hw14 : k0_chk14 v140), ∀ a, (k0_off28 v140) a + S1x100.size a ≤ S50000x100.size a := fun v140 k0_hw14 => k0_hw14

def k0_off29 (k0_t1 : Fin k0_t1_loop.trips) : Fin 3 → Nat :=
  let c0_94 : Index := 0#32
  let c0_95 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_93 : BitVec 32 := 0#32
  let v143 : BitVec 32 := Scalar.addi v58 c0_i32_93
  let c14_i32 : BitVec 32 := 14#32
  let v144 : BitVec 32 := Scalar.addi v143 c14_i32
  let v145 : Index := Scalar.indexCast v144
  ![0, 0, v145.toNat]
def k0_off30 (v146 : BitVec 32) : Fin 2 → Nat :=
  let v147 : Index := Scalar.indexCast v146
  let c0_96 : Index := 0#32
  ![v147.toNat, 0]

def k0_chk15 (v146 : BitVec 32) : Prop :=
  (∀ a, (k0_off30 v146) a + S1x100.size a ≤ S50000x100.size a)
theorem k0_off30_inb : ∀ (v146 : BitVec 32) (k0_hw15 : k0_chk15 v146), ∀ a, (k0_off30 v146) a + S1x100.size a ≤ S50000x100.size a := fun v146 k0_hw15 => k0_hw15

def k0_off31 (k0_t1 : Fin k0_t1_loop.trips) : Fin 3 → Nat :=
  let c0_98 : Index := 0#32
  let c0_99 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_97 : BitVec 32 := 0#32
  let v149 : BitVec 32 := Scalar.addi v58 c0_i32_97
  let c15_i32 : BitVec 32 := 15#32
  let v150 : BitVec 32 := Scalar.addi v149 c15_i32
  let v151 : Index := Scalar.indexCast v150
  ![0, 0, v151.toNat]
def k0_off32 (v152 : BitVec 32) : Fin 2 → Nat :=
  let v153 : Index := Scalar.indexCast v152
  let c0_100 : Index := 0#32
  ![v153.toNat, 0]

def k0_chk16 (v152 : BitVec 32) : Prop :=
  (∀ a, (k0_off32 v152) a + S1x100.size a ≤ S50000x100.size a)
theorem k0_off32_inb : ∀ (v152 : BitVec 32) (k0_hw16 : k0_chk16 v152), ∀ a, (k0_off32 v152) a + S1x100.size a ≤ S50000x100.size a := fun v152 k0_hw16 => k0_hw16

def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c0_i32_101 : BitVec 32 := 0#32
  let v156 : BitVec 32 := Scalar.addi v58 c0_i32_101
  let v157 : Index := Scalar.indexCast v156
  let c0_102 : Index := 0#32
  ![v157.toNat, 0]
def k0_off34 (k0_t1 : Fin k0_t1_loop.trips) : Fin 3 → Nat :=
  let c0_104 : Index := 0#32
  let c0_105 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32 : BitVec 32 := 16#32
  let v161 : BitVec 32 := Scalar.addi v58 c16_i32
  let c0_i32_103 : BitVec 32 := 0#32
  let v162 : BitVec 32 := Scalar.addi v161 c0_i32_103
  let v163 : Index := Scalar.indexCast v162
  ![0, 0, v163.toNat]
def k0_off35 (v164 : BitVec 32) : Fin 2 → Nat :=
  let v165 : Index := Scalar.indexCast v164
  let c0_106 : Index := 0#32
  ![v165.toNat, 0]

def k0_chk17 (v164 : BitVec 32) : Prop :=
  (∀ a, (k0_off35 v164) a + S1x100.size a ≤ S50000x100.size a)
theorem k0_off35_inb : ∀ (v164 : BitVec 32) (k0_hw17 : k0_chk17 v164), ∀ a, (k0_off35 v164) a + S1x100.size a ≤ S50000x100.size a := fun v164 k0_hw17 => k0_hw17

def k0_off36 (k0_t1 : Fin k0_t1_loop.trips) : Fin 3 → Nat :=
  let c0_109 : Index := 0#32
  let c0_110 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_107 : BitVec 32 := 16#32
  let v167 : BitVec 32 := Scalar.addi v58 c16_i32_107
  let c1_i32_108 : BitVec 32 := 1#32
  let v168 : BitVec 32 := Scalar.addi v167 c1_i32_108
  let v169 : Index := Scalar.indexCast v168
  ![0, 0, v169.toNat]
def k0_off37 (v170 : BitVec 32) : Fin 2 → Nat :=
  let v171 : Index := Scalar.indexCast v170
  let c0_111 : Index := 0#32
  ![v171.toNat, 0]

def k0_chk18 (v170 : BitVec 32) : Prop :=
  (∀ a, (k0_off37 v170) a + S1x100.size a ≤ S50000x100.size a)
theorem k0_off37_inb : ∀ (v170 : BitVec 32) (k0_hw18 : k0_chk18 v170), ∀ a, (k0_off37 v170) a + S1x100.size a ≤ S50000x100.size a := fun v170 k0_hw18 => k0_hw18

def k0_off38 (k0_t1 : Fin k0_t1_loop.trips) : Fin 3 → Nat :=
  let c0_114 : Index := 0#32
  let c0_115 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_112 : BitVec 32 := 16#32
  let v173 : BitVec 32 := Scalar.addi v58 c16_i32_112
  let c2_i32_113 : BitVec 32 := 2#32
  let v174 : BitVec 32 := Scalar.addi v173 c2_i32_113
  let v175 : Index := Scalar.indexCast v174
  ![0, 0, v175.toNat]
def k0_off39 (v176 : BitVec 32) : Fin 2 → Nat :=
  let v177 : Index := Scalar.indexCast v176
  let c0_116 : Index := 0#32
  ![v177.toNat, 0]

def k0_chk19 (v176 : BitVec 32) : Prop :=
  (∀ a, (k0_off39 v176) a + S1x100.size a ≤ S50000x100.size a)
theorem k0_off39_inb : ∀ (v176 : BitVec 32) (k0_hw19 : k0_chk19 v176), ∀ a, (k0_off39 v176) a + S1x100.size a ≤ S50000x100.size a := fun v176 k0_hw19 => k0_hw19

def k0_off40 (k0_t1 : Fin k0_t1_loop.trips) : Fin 3 → Nat :=
  let c0_119 : Index := 0#32
  let c0_120 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_117 : BitVec 32 := 16#32
  let v179 : BitVec 32 := Scalar.addi v58 c16_i32_117
  let c3_i32_118 : BitVec 32 := 3#32
  let v180 : BitVec 32 := Scalar.addi v179 c3_i32_118
  let v181 : Index := Scalar.indexCast v180
  ![0, 0, v181.toNat]
def k0_off41 (v182 : BitVec 32) : Fin 2 → Nat :=
  let v183 : Index := Scalar.indexCast v182
  let c0_121 : Index := 0#32
  ![v183.toNat, 0]

def k0_chk20 (v182 : BitVec 32) : Prop :=
  (∀ a, (k0_off41 v182) a + S1x100.size a ≤ S50000x100.size a)
theorem k0_off41_inb : ∀ (v182 : BitVec 32) (k0_hw20 : k0_chk20 v182), ∀ a, (k0_off41 v182) a + S1x100.size a ≤ S50000x100.size a := fun v182 k0_hw20 => k0_hw20

def k0_off42 (k0_t1 : Fin k0_t1_loop.trips) : Fin 3 → Nat :=
  let c0_124 : Index := 0#32
  let c0_125 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_122 : BitVec 32 := 16#32
  let v185 : BitVec 32 := Scalar.addi v58 c16_i32_122
  let c4_i32_123 : BitVec 32 := 4#32
  let v186 : BitVec 32 := Scalar.addi v185 c4_i32_123
  let v187 : Index := Scalar.indexCast v186
  ![0, 0, v187.toNat]
def k0_off43 (v188 : BitVec 32) : Fin 2 → Nat :=
  let v189 : Index := Scalar.indexCast v188
  let c0_126 : Index := 0#32
  ![v189.toNat, 0]

def k0_chk21 (v188 : BitVec 32) : Prop :=
  (∀ a, (k0_off43 v188) a + S1x100.size a ≤ S50000x100.size a)
theorem k0_off43_inb : ∀ (v188 : BitVec 32) (k0_hw21 : k0_chk21 v188), ∀ a, (k0_off43 v188) a + S1x100.size a ≤ S50000x100.size a := fun v188 k0_hw21 => k0_hw21

def k0_off44 (k0_t1 : Fin k0_t1_loop.trips) : Fin 3 → Nat :=
  let c0_129 : Index := 0#32
  let c0_130 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_127 : BitVec 32 := 16#32
  let v191 : BitVec 32 := Scalar.addi v58 c16_i32_127
  let c5_i32_128 : BitVec 32 := 5#32
  let v192 : BitVec 32 := Scalar.addi v191 c5_i32_128
  let v193 : Index := Scalar.indexCast v192
  ![0, 0, v193.toNat]
def k0_off45 (v194 : BitVec 32) : Fin 2 → Nat :=
  let v195 : Index := Scalar.indexCast v194
  let c0_131 : Index := 0#32
  ![v195.toNat, 0]

def k0_chk22 (v194 : BitVec 32) : Prop :=
  (∀ a, (k0_off45 v194) a + S1x100.size a ≤ S50000x100.size a)
theorem k0_off45_inb : ∀ (v194 : BitVec 32) (k0_hw22 : k0_chk22 v194), ∀ a, (k0_off45 v194) a + S1x100.size a ≤ S50000x100.size a := fun v194 k0_hw22 => k0_hw22

def k0_off46 (k0_t1 : Fin k0_t1_loop.trips) : Fin 3 → Nat :=
  let c0_134 : Index := 0#32
  let c0_135 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_132 : BitVec 32 := 16#32
  let v197 : BitVec 32 := Scalar.addi v58 c16_i32_132
  let c6_i32_133 : BitVec 32 := 6#32
  let v198 : BitVec 32 := Scalar.addi v197 c6_i32_133
  let v199 : Index := Scalar.indexCast v198
  ![0, 0, v199.toNat]
def k0_off47 (v200 : BitVec 32) : Fin 2 → Nat :=
  let v201 : Index := Scalar.indexCast v200
  let c0_136 : Index := 0#32
  ![v201.toNat, 0]

def k0_chk23 (v200 : BitVec 32) : Prop :=
  (∀ a, (k0_off47 v200) a + S1x100.size a ≤ S50000x100.size a)
theorem k0_off47_inb : ∀ (v200 : BitVec 32) (k0_hw23 : k0_chk23 v200), ∀ a, (k0_off47 v200) a + S1x100.size a ≤ S50000x100.size a := fun v200 k0_hw23 => k0_hw23

def k0_off48 (k0_t1 : Fin k0_t1_loop.trips) : Fin 3 → Nat :=
  let c0_139 : Index := 0#32
  let c0_140 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_137 : BitVec 32 := 16#32
  let v203 : BitVec 32 := Scalar.addi v58 c16_i32_137
  let c7_i32_138 : BitVec 32 := 7#32
  let v204 : BitVec 32 := Scalar.addi v203 c7_i32_138
  let v205 : Index := Scalar.indexCast v204
  ![0, 0, v205.toNat]
def k0_off49 (v206 : BitVec 32) : Fin 2 → Nat :=
  let v207 : Index := Scalar.indexCast v206
  let c0_141 : Index := 0#32
  ![v207.toNat, 0]

def k0_chk24 (v206 : BitVec 32) : Prop :=
  (∀ a, (k0_off49 v206) a + S1x100.size a ≤ S50000x100.size a)
theorem k0_off49_inb : ∀ (v206 : BitVec 32) (k0_hw24 : k0_chk24 v206), ∀ a, (k0_off49 v206) a + S1x100.size a ≤ S50000x100.size a := fun v206 k0_hw24 => k0_hw24

def k0_off50 (k0_t1 : Fin k0_t1_loop.trips) : Fin 3 → Nat :=
  let c0_144 : Index := 0#32
  let c0_145 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_142 : BitVec 32 := 16#32
  let v209 : BitVec 32 := Scalar.addi v58 c16_i32_142
  let c8_i32_143 : BitVec 32 := 8#32
  let v210 : BitVec 32 := Scalar.addi v209 c8_i32_143
  let v211 : Index := Scalar.indexCast v210
  ![0, 0, v211.toNat]
def k0_off51 (v212 : BitVec 32) : Fin 2 → Nat :=
  let v213 : Index := Scalar.indexCast v212
  let c0_146 : Index := 0#32
  ![v213.toNat, 0]

def k0_chk25 (v212 : BitVec 32) : Prop :=
  (∀ a, (k0_off51 v212) a + S1x100.size a ≤ S50000x100.size a)
theorem k0_off51_inb : ∀ (v212 : BitVec 32) (k0_hw25 : k0_chk25 v212), ∀ a, (k0_off51 v212) a + S1x100.size a ≤ S50000x100.size a := fun v212 k0_hw25 => k0_hw25

def k0_off52 (k0_t1 : Fin k0_t1_loop.trips) : Fin 3 → Nat :=
  let c0_149 : Index := 0#32
  let c0_150 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_147 : BitVec 32 := 16#32
  let v215 : BitVec 32 := Scalar.addi v58 c16_i32_147
  let c9_i32_148 : BitVec 32 := 9#32
  let v216 : BitVec 32 := Scalar.addi v215 c9_i32_148
  let v217 : Index := Scalar.indexCast v216
  ![0, 0, v217.toNat]
def k0_off53 (v218 : BitVec 32) : Fin 2 → Nat :=
  let v219 : Index := Scalar.indexCast v218
  let c0_151 : Index := 0#32
  ![v219.toNat, 0]

def k0_chk26 (v218 : BitVec 32) : Prop :=
  (∀ a, (k0_off53 v218) a + S1x100.size a ≤ S50000x100.size a)
theorem k0_off53_inb : ∀ (v218 : BitVec 32) (k0_hw26 : k0_chk26 v218), ∀ a, (k0_off53 v218) a + S1x100.size a ≤ S50000x100.size a := fun v218 k0_hw26 => k0_hw26

def k0_off54 (k0_t1 : Fin k0_t1_loop.trips) : Fin 3 → Nat :=
  let c0_154 : Index := 0#32
  let c0_155 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_152 : BitVec 32 := 16#32
  let v221 : BitVec 32 := Scalar.addi v58 c16_i32_152
  let c10_i32_153 : BitVec 32 := 10#32
  let v222 : BitVec 32 := Scalar.addi v221 c10_i32_153
  let v223 : Index := Scalar.indexCast v222
  ![0, 0, v223.toNat]
def k0_off55 (v224 : BitVec 32) : Fin 2 → Nat :=
  let v225 : Index := Scalar.indexCast v224
  let c0_156 : Index := 0#32
  ![v225.toNat, 0]

def k0_chk27 (v224 : BitVec 32) : Prop :=
  (∀ a, (k0_off55 v224) a + S1x100.size a ≤ S50000x100.size a)
theorem k0_off55_inb : ∀ (v224 : BitVec 32) (k0_hw27 : k0_chk27 v224), ∀ a, (k0_off55 v224) a + S1x100.size a ≤ S50000x100.size a := fun v224 k0_hw27 => k0_hw27

def k0_off56 (k0_t1 : Fin k0_t1_loop.trips) : Fin 3 → Nat :=
  let c0_159 : Index := 0#32
  let c0_160 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_157 : BitVec 32 := 16#32
  let v227 : BitVec 32 := Scalar.addi v58 c16_i32_157
  let c11_i32_158 : BitVec 32 := 11#32
  let v228 : BitVec 32 := Scalar.addi v227 c11_i32_158
  let v229 : Index := Scalar.indexCast v228
  ![0, 0, v229.toNat]
def k0_off57 (v230 : BitVec 32) : Fin 2 → Nat :=
  let v231 : Index := Scalar.indexCast v230
  let c0_161 : Index := 0#32
  ![v231.toNat, 0]

def k0_chk28 (v230 : BitVec 32) : Prop :=
  (∀ a, (k0_off57 v230) a + S1x100.size a ≤ S50000x100.size a)
theorem k0_off57_inb : ∀ (v230 : BitVec 32) (k0_hw28 : k0_chk28 v230), ∀ a, (k0_off57 v230) a + S1x100.size a ≤ S50000x100.size a := fun v230 k0_hw28 => k0_hw28

def k0_off58 (k0_t1 : Fin k0_t1_loop.trips) : Fin 3 → Nat :=
  let c0_164 : Index := 0#32
  let c0_165 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_162 : BitVec 32 := 16#32
  let v233 : BitVec 32 := Scalar.addi v58 c16_i32_162
  let c12_i32_163 : BitVec 32 := 12#32
  let v234 : BitVec 32 := Scalar.addi v233 c12_i32_163
  let v235 : Index := Scalar.indexCast v234
  ![0, 0, v235.toNat]
def k0_off59 (v236 : BitVec 32) : Fin 2 → Nat :=
  let v237 : Index := Scalar.indexCast v236
  let c0_166 : Index := 0#32
  ![v237.toNat, 0]

def k0_chk29 (v236 : BitVec 32) : Prop :=
  (∀ a, (k0_off59 v236) a + S1x100.size a ≤ S50000x100.size a)
theorem k0_off59_inb : ∀ (v236 : BitVec 32) (k0_hw29 : k0_chk29 v236), ∀ a, (k0_off59 v236) a + S1x100.size a ≤ S50000x100.size a := fun v236 k0_hw29 => k0_hw29

def k0_off60 (k0_t1 : Fin k0_t1_loop.trips) : Fin 3 → Nat :=
  let c0_169 : Index := 0#32
  let c0_170 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_167 : BitVec 32 := 16#32
  let v239 : BitVec 32 := Scalar.addi v58 c16_i32_167
  let c13_i32_168 : BitVec 32 := 13#32
  let v240 : BitVec 32 := Scalar.addi v239 c13_i32_168
  let v241 : Index := Scalar.indexCast v240
  ![0, 0, v241.toNat]
def k0_off61 (v242 : BitVec 32) : Fin 2 → Nat :=
  let v243 : Index := Scalar.indexCast v242
  let c0_171 : Index := 0#32
  ![v243.toNat, 0]

def k0_chk30 (v242 : BitVec 32) : Prop :=
  (∀ a, (k0_off61 v242) a + S1x100.size a ≤ S50000x100.size a)
theorem k0_off61_inb : ∀ (v242 : BitVec 32) (k0_hw30 : k0_chk30 v242), ∀ a, (k0_off61 v242) a + S1x100.size a ≤ S50000x100.size a := fun v242 k0_hw30 => k0_hw30

def k0_off62 (k0_t1 : Fin k0_t1_loop.trips) : Fin 3 → Nat :=
  let c0_174 : Index := 0#32
  let c0_175 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_172 : BitVec 32 := 16#32
  let v245 : BitVec 32 := Scalar.addi v58 c16_i32_172
  let c14_i32_173 : BitVec 32 := 14#32
  let v246 : BitVec 32 := Scalar.addi v245 c14_i32_173
  let v247 : Index := Scalar.indexCast v246
  ![0, 0, v247.toNat]
def k0_off63 (v248 : BitVec 32) : Fin 2 → Nat :=
  let v249 : Index := Scalar.indexCast v248
  let c0_176 : Index := 0#32
  ![v249.toNat, 0]

def k0_chk31 (v248 : BitVec 32) : Prop :=
  (∀ a, (k0_off63 v248) a + S1x100.size a ≤ S50000x100.size a)
theorem k0_off63_inb : ∀ (v248 : BitVec 32) (k0_hw31 : k0_chk31 v248), ∀ a, (k0_off63 v248) a + S1x100.size a ≤ S50000x100.size a := fun v248 k0_hw31 => k0_hw31

def k0_off64 (k0_t1 : Fin k0_t1_loop.trips) : Fin 3 → Nat :=
  let c0_179 : Index := 0#32
  let c0_180 : Index := 0#32
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_177 : BitVec 32 := 16#32
  let v251 : BitVec 32 := Scalar.addi v58 c16_i32_177
  let c15_i32_178 : BitVec 32 := 15#32
  let v252 : BitVec 32 := Scalar.addi v251 c15_i32_178
  let v253 : Index := Scalar.indexCast v252
  ![0, 0, v253.toNat]
def k0_off65 (v254 : BitVec 32) : Fin 2 → Nat :=
  let v255 : Index := Scalar.indexCast v254
  let c0_181 : Index := 0#32
  ![v255.toNat, 0]

def k0_chk32 (v254 : BitVec 32) : Prop :=
  (∀ a, (k0_off65 v254) a + S1x100.size a ≤ S50000x100.size a)
theorem k0_off65_inb : ∀ (v254 : BitVec 32) (k0_hw32 : k0_chk32 v254), ∀ a, (k0_off65 v254) a + S1x100.size a ≤ S50000x100.size a := fun v254 k0_hw32 => k0_hw32

def k0_off66 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v57 : BitVec 32 := Scalar.muli arg7 c32_i32
  let v58 : BitVec 32 := v57
  let c16_i32_182 : BitVec 32 := 16#32
  let v258 : BitVec 32 := Scalar.addi v58 c16_i32_182
  let v259 : Index := Scalar.indexCast v258
  let c0_183 : Index := 0#32
  ![v259.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x2528 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50000x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x100x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2500x56 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 9], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 3 → Nat :=
  let arg0 : BitVec 32 := BitVec.ofNat 32 (i 0).val
  let v2 : Index := Scalar.indexCast arg0
  let c0 : Index := 0#32
  let c0_0 : Index := 0#32
  ![v2.toNat, 0, 0]
def k1_off2 (i : grid1.Coords) : Fin 2 → Nat :=
  let c0_1 : Index := 0#32
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  ![0, v5.toNat]
def k1_off3 (i : grid1.Coords) : Fin 2 → Nat :=
  let c56 : Index := 56#32
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  ![56, v8.toNat]
def k1_off4 (i : grid1.Coords) : Fin 2 → Nat :=
  let c112 : Index := 112#32
  let arg1 : BitVec 32 := BitVec.ofNat 32 (i 1).val
  let c1024_i32 : BitVec 32 := 1024#32
  let v0 : BitVec 32 := Scalar.muli arg1 c1024_i32
  let v1 : BitVec 32 := v0
  let v11 : Index := Scalar.indexCast v1
  ![112, v11.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .vmem S8x2500x56 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S120x9216 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := .none

abbrev stage2_0 : Fin 1 → Memref sig .tc .vmem S8x8921 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x8921 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2500 : Shape := ⟨2, ![8, 2500]⟩
abbrev S8x8921 : Shape := ⟨2, ![8, 8921]⟩
abbrev S50000x100 : Shape := ⟨2, ![50000, 100]⟩
abbrev S50x100x9 : Shape := ⟨3, ![50, 100, 9]⟩
abbrev S50 : Shape := ⟨1, ![50]⟩
abbrev S8921x50 : Shape := ⟨2, ![8921, 50]⟩
abbrev S8921 : Shape := ⟨1, ![8921]⟩
abbrev S_ : Shape := ⟨0, ![]⟩
abbrev S8x2500x1 : Shape := ⟨3, ![8, 2500, 1]⟩
abbrev S8x2500x100 : Shape := ⟨3, ![8, 2500, 100]⟩
abbrev S8x2508x100 : Shape := ⟨3, ![8, 2508, 100]⟩
abbrev S8x2500x50 : Shape := ⟨3, ![8, 2500, 50]⟩
abbrev S50x100x1 : Shape := ⟨3, ![50, 100, 1]⟩
abbrev S50x100 : Shape := ⟨2, ![50, 100]⟩
abbrev S1x1x50 : Shape := ⟨3, ![1, 1, 50]⟩
abbrev S8x2500x8921 : Shape := ⟨3, ![8, 2500, 8921]⟩
abbrev S8x8921x2500 : Shape := ⟨3, ![8, 8921, 2500]⟩
abbrev S8x8921x1 : Shape := ⟨3, ![8, 8921, 1]⟩
abbrev S8x8921x50 : Shape := ⟨3, ![8, 8921, 50]⟩
abbrev S8921x8 : Shape := ⟨2, ![8921, 8]⟩
abbrev S1x8921 : Shape := ⟨2, ![1, 8921]⟩

abbrev nBuf : Space → Nat
  | .hbm => 107
  | .vmem => 0
  | .smem => 0
  | _ => 0

abbrev bufTy : (tb : Table) → Fin (tcTables nBuf tb) → BufTy
  | .hbm, ⟨0, _⟩ => ⟨S8x2500, .i32⟩
  | .hbm, ⟨1, _⟩ => ⟨S8x8921, .f32⟩
  | .hbm, ⟨2, _⟩ => ⟨S50000x100, .f32⟩
  | .hbm, ⟨3, _⟩ => ⟨S50x100x9, .f32⟩
  | .hbm, ⟨4, _⟩ => ⟨S50, .f32⟩
  | .hbm, ⟨5, _⟩ => ⟨S8921x50, .f32⟩
  | .hbm, ⟨6, _⟩ => ⟨S8921x50, .f32⟩
  | .hbm, ⟨7, _⟩ => ⟨S8921, .f32⟩
  | .hbm, ⟨8, _⟩ => ⟨S_, .i32⟩
  | .hbm, ⟨9, _⟩ => ⟨S8x2500, .i32⟩
  | .hbm, ⟨10, _⟩ => ⟨S8x2500, .i1⟩
  | .hbm, ⟨11, _⟩ => ⟨S_, .i32⟩
  | .hbm, ⟨12, _⟩ => ⟨S8x2500, .i32⟩
  | .hbm, ⟨13, _⟩ => ⟨S8x2500, .i32⟩
  | .hbm, ⟨14, _⟩ => ⟨S8x2500, .i32⟩
  | .hbm, ⟨15, _⟩ => ⟨S8x2500x1, .i32⟩
  | .hbm, ⟨16, _⟩ => ⟨S8x2500x100, .f32⟩
  | .hbm, ⟨17, _⟩ => ⟨S_, .i32⟩
  | .hbm, ⟨18, _⟩ => ⟨S_, .f32⟩
  | .hbm, ⟨19, _⟩ => ⟨S8x2508x100, .f32⟩
  | .hbm, ⟨20, _⟩ => ⟨S_, .f32⟩
  | .hbm, ⟨21, _⟩ => ⟨S8x2500x50, .f32⟩
  | .hbm, ⟨22, _⟩ => ⟨S8x2500x100, .f32⟩
  | .hbm, ⟨23, _⟩ => ⟨S50x100x1, .f32⟩
  | .hbm, ⟨24, _⟩ => ⟨S50x100, .f32⟩
  | .hbm, ⟨25, _⟩ => ⟨S8x2500x50, .f32⟩
  | .hbm, ⟨26, _⟩ => ⟨S8x2500x50, .f32⟩
  | .hbm, ⟨27, _⟩ => ⟨S8x2500x100, .f32⟩
  | .hbm, ⟨28, _⟩ => ⟨S50x100x1, .f32⟩
  | .hbm, ⟨29, _⟩ => ⟨S50x100, .f32⟩
  | .hbm, ⟨30, _⟩ => ⟨S8x2500x50, .f32⟩
  | .hbm, ⟨31, _⟩ => ⟨S8x2500x50, .f32⟩
  | .hbm, ⟨32, _⟩ => ⟨S8x2500x100, .f32⟩
  | .hbm, ⟨33, _⟩ => ⟨S50x100x1, .f32⟩
  | .hbm, ⟨34, _⟩ => ⟨S50x100, .f32⟩
  | .hbm, ⟨35, _⟩ => ⟨S8x2500x50, .f32⟩
  | .hbm, ⟨36, _⟩ => ⟨S8x2500x50, .f32⟩
  | .hbm, ⟨37, _⟩ => ⟨S8x2500x100, .f32⟩
  | .hbm, ⟨38, _⟩ => ⟨S50x100x1, .f32⟩
  | .hbm, ⟨39, _⟩ => ⟨S50x100, .f32⟩
  | .hbm, ⟨40, _⟩ => ⟨S8x2500x50, .f32⟩
  | .hbm, ⟨41, _⟩ => ⟨S8x2500x50, .f32⟩
  | .hbm, ⟨42, _⟩ => ⟨S8x2500x100, .f32⟩
  | .hbm, ⟨43, _⟩ => ⟨S50x100x1, .f32⟩
  | .hbm, ⟨44, _⟩ => ⟨S50x100, .f32⟩
  | .hbm, ⟨45, _⟩ => ⟨S8x2500x50, .f32⟩
  | .hbm, ⟨46, _⟩ => ⟨S8x2500x50, .f32⟩
  | .hbm, ⟨47, _⟩ => ⟨S8x2500x100, .f32⟩
  | .hbm, ⟨48, _⟩ => ⟨S50x100x1, .f32⟩
  | .hbm, ⟨49, _⟩ => ⟨S50x100, .f32⟩
  | .hbm, ⟨50, _⟩ => ⟨S8x2500x50, .f32⟩
  | .hbm, ⟨51, _⟩ => ⟨S8x2500x50, .f32⟩
  | .hbm, ⟨52, _⟩ => ⟨S8x2500x100, .f32⟩
  | .hbm, ⟨53, _⟩ => ⟨S50x100x1, .f32⟩
  | .hbm, ⟨54, _⟩ => ⟨S50x100, .f32⟩
  | .hbm, ⟨55, _⟩ => ⟨S8x2500x50, .f32⟩
  | .hbm, ⟨56, _⟩ => ⟨S8x2500x50, .f32⟩
  | .hbm, ⟨57, _⟩ => ⟨S8x2500x100, .f32⟩
  | .hbm, ⟨58, _⟩ => ⟨S50x100x1, .f32⟩
  | .hbm, ⟨59, _⟩ => ⟨S50x100, .f32⟩
  | .hbm, ⟨60, _⟩ => ⟨S8x2500x50, .f32⟩
  | .hbm, ⟨61, _⟩ => ⟨S8x2500x50, .f32⟩
  | .hbm, ⟨62, _⟩ => ⟨S8x2500x100, .f32⟩
  | .hbm, ⟨63, _⟩ => ⟨S50x100x1, .f32⟩
  | .hbm, ⟨64, _⟩ => ⟨S50x100, .f32⟩
  | .hbm, ⟨65, _⟩ => ⟨S8x2500x50, .f32⟩
  | .hbm, ⟨66, _⟩ => ⟨S8x2500x50, .f32⟩
  | .hbm, ⟨67, _⟩ => ⟨S1x1x50, .f32⟩
  | .hbm, ⟨68, _⟩ => ⟨S8x2500x50, .f32⟩
  | .hbm, ⟨69, _⟩ => ⟨S8x2500x50, .f32⟩
  | .hbm, ⟨70, _⟩ => ⟨S8x2500x50, .f32⟩
  | .hbm, ⟨71, _⟩ => ⟨S8x2500x8921, .f32⟩
  | .hbm, ⟨72, _⟩ => ⟨S8x8921x2500, .f32⟩
  | .hbm, ⟨73, _⟩ => ⟨S_, .f32⟩
  | .hbm, ⟨74, _⟩ => ⟨S8x8921, .f32⟩
  | .hbm, ⟨75, _⟩ => ⟨S_, .f32⟩
  | .hbm, ⟨76, _⟩ => ⟨S8x8921, .f32⟩
  | .hbm, ⟨77, _⟩ => ⟨S8x8921, .f32⟩
  | .hbm, ⟨78, _⟩ => ⟨S8x8921x1, .f32⟩
  | .hbm, ⟨79, _⟩ => ⟨S8x8921x2500, .f32⟩
  | .hbm, ⟨80, _⟩ => ⟨S8x8921x2500, .f32⟩
  | .hbm, ⟨81, _⟩ => ⟨S8x8921x2500, .f32⟩
  | .hbm, ⟨82, _⟩ => ⟨S_, .f32⟩
  | .hbm, ⟨83, _⟩ => ⟨S8x8921, .f32⟩
  | .hbm, ⟨84, _⟩ => ⟨S8x8921x1, .f32⟩
  | .hbm, ⟨85, _⟩ => ⟨S8x8921x2500, .f32⟩
  | .hbm, ⟨86, _⟩ => ⟨S8x8921x2500, .f32⟩
  | .hbm, ⟨87, _⟩ => ⟨S8x8921x50, .f32⟩
  | .hbm, ⟨88, _⟩ => ⟨S8921x8, .f32⟩
  | .hbm, ⟨89, _⟩ => ⟨S8x8921, .f32⟩
  | .hbm, ⟨90, _⟩ => ⟨S1x8921, .f32⟩
  | .hbm, ⟨91, _⟩ => ⟨S8x8921, .f32⟩
  | .hbm, ⟨92, _⟩ => ⟨S8x8921, .f32⟩
  | .hbm, ⟨93, _⟩ => ⟨S_, .f32⟩
  | .hbm, ⟨94, _⟩ => ⟨S8x8921, .f32⟩
  | .hbm, ⟨95, _⟩ => ⟨S8x8921, .f32⟩
  | .hbm, ⟨96, _⟩ => ⟨S8x8921, .f32⟩
  | .hbm, ⟨97, _⟩ => ⟨S8x8921, .f32⟩
  | .hbm, ⟨98, _⟩ => ⟨S8x8921, .f32⟩
  | .hbm, ⟨99, _⟩ => ⟨S8x8921, .f32⟩
  | .hbm, ⟨100, _⟩ => ⟨S8x8921, .f32⟩
  | .hbm, ⟨101, _⟩ => ⟨S8x8921, .f32⟩
  | .hbm, ⟨102, _⟩ => ⟨S8x8921, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8x2500, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call0_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_6 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== Proof.Ideal.Rows.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A word below 50000 names a row of the table. -/
theorem row_inb (v : BitVec 32) (h : v.toNat < 50000) :
    ∀ a, (![(Scalar.indexCast v : Index).toNat, 0] : Fin 2 → ℕ) a + S1x100.size a ≤ S50000x100.size a := by
  have e : (Scalar.indexCast v : Index) = v := by simp [Scalar.indexCast]
  rw [e]
  exact Fin.forall_fin_two.mpr ⟨by show v.toNat + 1 ≤ 50000; omega, by show 0 + 100 ≤ 100; omega⟩

theorem word_lt {arg1 : Memref sig .tc .smem S1x1x2528 .i32} (harg1 : arg1.IsWhole) (x0 : Vec F S1x1x2528 .i32)
    (hx : ∀ y, (x0 y : BitVec 32).toNat < 50000) (B : LoadRect S1x1x2528) (y : B.shape.Idx) :
    (arg1.view.readAt (Elt F) B (harg1.unread x0) y : BitVec 32).toNat < 50000 := by
  rw [harg1.readAt_unread]; exact hx _

/-- The table row a word names (its value, which is below 50000 wherever this is used). -/
def rowOf (v : BitVec 32) : Fin 50000 := ⟨v.toNat % 50000, Nat.mod_lt _ (by decide)⟩

/-- The rows the words `x0` name, read off the table `x1` in order: what the scratch holds after the loop. -/
def rowsOf (x0 : Vec F S1x1x2528 .i32) (x1 : Vec F S50000x100 .f32) : Vec F S2528x100 .f32 :=
  fun y => x1 (ix2 (rowOf (x0 (ix3 (0 : Fin 1) (0 : Fin 1) (y 0)))) (y 1))

/-- One row's load: the word at place `p` is read, then the row it names. -/
theorem row_load {arg1 : Memref sig .tc .smem S1x1x2528 .i32} (harg1 : arg1.IsWhole) {arg2 : Memref sig .tc .vmem S50000x100 .f32} (harg2 : arg2.IsWhole)
    (x0 : Vec F S1x1x2528 .i32) (x1 : Vec F S50000x100 .f32) (hx : ∀ y, (x0 y : BitVec 32).toNat < 50000) (p : ℕ) (hp : p < 2528)
    {off1 : Fin 3 → ℕ} (inb1 : ∀ a, off1 a + S1x1x1.size a ≤ S1x1x2528.size a) (z : S1x1x1.Idx)
    {off2 : Fin 2 → ℕ} (inb2 : ∀ a, off2 a + S1x100.size a ≤ S50000x100.size a)
    (h2 : off2 = ![(Scalar.indexCast (arg1.view.readAt (Elt F) (Rect.unit (s := S1x1x2528) off1 S1x1x1.size inb1).toLoadRect (harg1.unread x0) z : BitVec 32) : Index).toNat, 0]) (hC : off1 = ![0, 0, p]) :
    arg2.view.readAt (Elt F) (Rect.unit (s := S50000x100) off2 S1x100.size inb2).toLoadRect (harg2.unread x1)
      = fun y => rowsOf x0 x1 (ix2 ⟨p, hp⟩ (y 1)) := by
  subst hC
  subst h2
  funext y
  rw [harg2.readAt_unread]
  have e : ∀ v : BitVec 32, (Scalar.indexCast v : Index) = v := fun v => by simp [Scalar.indexCast]
  unfold rowsOf
  congr 1
  have hz : (Rect.unit (s := S1x1x2528) ![0, 0, p] S1x1x1.size inb1).toLoadRect.idx z = ix3 (0 : Fin 1) (0 : Fin 1) ⟨p, hp⟩ := by
    funext a; apply Fin.ext
    match a with
    | ⟨0, _⟩ => have := (z 0).isLt; show 0 + 1 * (z 0).val = 0; simp at this ⊢; omega
    | ⟨1, _⟩ => have := (z 1).isLt; show 0 + 1 * (z 1).val = 0; simp at this ⊢; omega
    | ⟨2, _⟩ => have := (z 2).isLt; show p + 1 * (z 2).val = p; simp at this ⊢; omega
  have hw : (Scalar.indexCast (arg1.view.readAt (Elt F) (Rect.unit (s := S1x1x2528) ![0, 0, p] S1x1x1.size inb1).toLoadRect (harg1.unread x0) z : BitVec 32) : Index).toNat
      = (rowOf (x0 (ix3 (0 : Fin 1) (0 : Fin 1) ⟨p, hp⟩))).val := by
    rw [e, harg1.readAt_unread, hz]; exact (Nat.mod_eq_of_lt (hx _)).symm
  funext a; apply Fin.ext
  match a with
  | ⟨0, _⟩ =>
    have h0 : (y 0).val = 0 := by have : (y 0).val < 1 := (y 0).isLt; omega
    refine Eq.trans (congrArg₂ (· + 1 * ·) hw h0) ?_
    rfl
  | ⟨1, _⟩ => show 0 + 1 * (y 1).val = (y 1).val; omega

/-- A block of sixteen rows, row by row. -/
theorem pay2_rows (f : Fin 16 → Vec F S1x100 .f32) :
    k0_pay2 (f 0) (f 1) (f 2) (f 3) (f 4) (f 5) (f 6) (f 7) (f 8) (f 9) (f 10) (f 11) (f 12) (f 13) (f 14) (f 15)
      = fun y => f (y 0) (ix2 (0 : Fin 1) (y 1)) := by
  funext y
  unfold k0_pay2
  rw [shapeCast_self]
  exact concatenate_ofFn_unit_apply (t := S16x100) 0 f concatenates_S1x100_S1x100_S1x100_S1x100_S1x100_S1x100_S1x100_S1x100_S1x100_S1x100_S1x100_S1x100_S1x100_S1x100_S1x100_S1x100_S16x100_d0 rfl rfl y (y 0) rfl _
    (fun b hb => by
      match b, hb with
      | ⟨0, _⟩, hb => exact absurd rfl hb
      | ⟨1, _⟩, _ => rfl)

theorem pay3_rows (f : Fin 16 → Vec F S1x100 .f32) :
    k0_pay3 (f 0) (f 1) (f 2) (f 3) (f 4) (f 5) (f 6) (f 7) (f 8) (f 9) (f 10) (f 11) (f 12) (f 13) (f 14) (f 15)
      = fun y => f (y 0) (ix2 (0 : Fin 1) (y 1)) := pay2_rows f

/-- Two blocks of sixteen rows stored one below the other: rows `32 k` to `32 k + 31` read the payloads, which are `G`'s rows,
    and the other rows what they were. -/
theorem two_blocks (v : View sig .tc .vmem S2528x100 .f32) (f : v.ty.Contents (Elt F)) (G : Vec F S2528x100 .f32) (k : ℕ) (hk : k < 79)
    {off33 off66 : Fin 2 → ℕ} (i33 : ∀ a, off33 a + S16x100.size a ≤ S2528x100.size a) (i66 : ∀ a, off66 a + S16x100.size a ≤ S2528x100.size a)
    (h33 : off33 = ![32 * k, 0]) (h66 : off66 = ![32 * k + 16, 0]) (w33 w66 : Vec F S16x100 .f32)
    (e33 : w33 = fun y => G (ix2 ⟨32 * k + (y 0).val, by have : (y 0).val < 16 := (y 0).isLt; omega⟩ (y 1)))
    (e66 : w66 = fun y => G (ix2 ⟨32 * k + 16 + (y 0).val, by have : (y 0).val < 16 := (y 0).isLt; omega⟩ (y 1))) (y : S2528x100.Idx) :
    v.read (Elt F) (v.writes (Elt F) f [⟨Rect.unit (s := S2528x100) off66 S16x100.size i66, w66⟩, ⟨Rect.unit (s := S2528x100) off33 S16x100.size i33, w33⟩]) y
      = if 32 * k ≤ (y 0).val ∧ (y 0).val < 32 * k + 32 then G y else v.read (Elt F) f y := by
  subst e33 e66
  rw [View.read_writes_cons_rows (o := 32 * k + 16) (W := 16) v f i66 _ _ y h66 rfl rfl]
  split
  · next hy =>
    rw [if_pos (by omega)]
    refine congrArg G ?_
    funext a; apply Fin.ext
    match a with
    | ⟨0, _⟩ => show 32 * k + 16 + ((y 0).val - (32 * k + 16)) = (y 0).val; omega
    | ⟨1, _⟩ => show (y 1).val - 0 = (y 1).val; omega
  · next hy =>
    rw [View.read_writes_cons_rows (o := 32 * k) (W := 16) v f i33 _ _ y h33 rfl rfl]
    split
    · next hy' =>
      rw [if_pos (by omega)]
      refine congrArg G ?_
      funext a; apply Fin.ext
      match a with
      | ⟨0, _⟩ => show 32 * k + ((y 0).val - 32 * k) = (y 0).val; omega
      | ⟨1, _⟩ => show (y 1).val - 0 = (y 1).val; omega
    · next hy' => rw [if_neg (by omega)]; rfl

/-- What one trip touches: the words and the table at their contents, the scratch at any. -/
abbrev TripRes (c : Dev nD) (arg1 : Memref sig .tc .smem S1x1x2528 .i32) (arg2 : Memref sig .tc .vmem S50000x100 .f32) (arg6 : Memref sig .tc .vmem S2528x100 .f32)
    (X1 : BufTy.Contents (Elt F) arg1.view.ty) (X2 : BufTy.Contents (Elt F) arg2.view.ty) (f : BufTy.Contents (Elt F) arg6.view.ty) : sProp 𝕄 :=
  iprop((arg1.view.loc (c : Thread nD τ) ↦[arg1.view.set]{fullShare} X1) ∗ (arg2.view.loc (c : Thread nD τ) ↦[arg2.view.set]{fullShare} X2)
    ∗ (arg6.view.loc (c : Thread nD τ) ↦[arg6.view.set]{fullShare} f))

set_option maxHeartbeats 4000000 in
theorem trip (𝒱 : Variants) (c : Dev nD) (bd : Option 𝒱.V) (i : grid0.Coords) (arg1 : Memref sig .tc .smem S1x1x2528 .i32) (harg1 : arg1.IsWhole) (arg2 : Memref sig .tc .vmem S50000x100 .f32) (harg2 : arg2.IsWhole)
  (arg3 : Memref sig .tc .vmem S9x100x50 .f32) (harg3 : arg3.IsWhole) (arg4 : Memref sig .tc .vmem S1x50 .f32) (harg4 : arg4.IsWhole) (arg5 : Memref sig .tc .vmem S1x2500x56 .bf16) (harg5 : arg5.IsWhole) (arg6 : Memref sig .tc .vmem S2528x100 .f32) (harg6 : arg6.IsWhole)
  (x0 : Vec F S1x1x2528 .i32) (x1 : Vec F S50000x100 .f32) (hx : ∀ y, (x0 y : BitVec 32).toNat < 50000) (k : Fin k0_t1_loop.trips)
  (E : Set ℕ) (f : BufTy.Contents (Elt F) arg6.view.ty)  :
  TripRes (F := F) c arg1 arg2 arg6 (harg1.unread x0) (harg2.unread x1) f
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => iprop(∃ g, TripRes (F := F) c arg1 arg2 arg6 (harg1.unread x0) (harg2.unread x1) g ∗ ⌜∀ y : S2528x100.Idx, arg6.view.read (Elt F) g y = if 32 * k.val ≤ (y 0).val ∧ (y 0).val < 32 * k.val + 32 then rowsOf x0 x1 y else arg6.view.read (Elt F) f y⌝)) := by
  have hk : k.val < 79 := Nat.lt_of_lt_of_le k.isLt k0_t1_abs.2.1
  unfold k0_t1_body
  iintro ⟨HR_arg1, HR_arg2, HW_arg6⟩
  sl_exec (disch := exact row_inb _ (word_lt harg1 x0 hx _ _))
  sl_step
  iexists _
  isplitl [HR_arg1 HR_arg2 HW_arg6]
  · isplitl [HR_arg1]; · iexact HR_arg1
    isplitl [HR_arg2]; · iexact HR_arg2
    iexact HW_arg6
  ipureintro
  have hlo : trip.sl.v160 arg1 harg1 arg2 harg2 x0 x1 hx k = fun y => rowsOf x0 x1 (ix2 ⟨32 * k.val + (y 0).val, by have : (y 0).val < 16 := (y 0).isLt; omega⟩ (y 1)) := by
    have := pay2_rows (fun n : Fin 16 => fun z : S1x100.Idx => rowsOf x0 x1 (ix2 ⟨32 * k.val + n.val, by omega⟩ (z 1)))
    refine Eq.trans ?_ this
    show k0_pay2 _ _ _ _ _ _ _ _ _ _ _ _ _ _ _ _ = _
    congr 1 <;> (refine @row_load _ _ _ _ harg1 _ harg2 x0 x1 hx _ _ ?_ ?_ ?_ _ _ ?_ ?_; pick_goal 4; rfl; exact ClosedOff.eq)
  have hhi := pay3_rows (fun n : Fin 16 => fun z : S1x100.Idx => rowsOf x0 x1 (ix2 ⟨32 * k.val + 16 + n.val, by omega⟩ (z 1)))
  refine two_blocks arg6.view f (rowsOf x0 x1) k.val hk _ _ ClosedOff.eq ClosedOff.eq _ _ hlo (Eq.trans ?_ hhi)
  congr 1 <;> (refine @row_load _ _ _ _ harg1 _ harg2 x0 x1 hx _ _ ?_ ?_ ?_ _ _ ?_ ?_; pick_goal 4; rfl; exact ClosedOff.eq)

end Cert.KernelIdeal.Whole

end
-- ==== Proof.Ideal.Conv.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Rows
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option warn.classDefReducibility false in
/-- The row loop by its invariant: before trip `k` the first `32 k` rows of the scratch are the rows the words name. -/
@[sl_loop] def rowsLoop (𝒱 : Variants) (c : Dev nD) (bd : Option 𝒱.V) (E : Set ℕ) (i : grid0.Coords) (arg1 : Memref sig .tc .smem S1x1x2528 .i32) (harg1 : arg1.IsWhole) (arg2 : Memref sig .tc .vmem S50000x100 .f32) (harg2 : arg2.IsWhole)
  (arg3 : Memref sig .tc .vmem S9x100x50 .f32) (harg3 : arg3.IsWhole) (arg4 : Memref sig .tc .vmem S1x50 .f32) (harg4 : arg4.IsWhole) (arg5 : Memref sig .tc .vmem S1x2500x56 .bf16) (harg5 : arg5.IsWhole) (arg6 : Memref sig .tc .vmem S2528x100 .f32) (harg6 : arg6.IsWhole)
  (x0 : Vec F S1x1x2528 .i32) (x1 : Vec F S50000x100 .f32) (hx : ∀ y, (x0 y : BitVec 32).toNat < 50000) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6) where
  inv k _ := iprop((arg1.view.loc (c : Thread nD τ) ↦[arg1.view.set]{fullShare} harg1.unread x0) ∗ (arg2.view.loc (c : Thread nD τ) ↦[arg2.view.set]{fullShare} harg2.unread x1)
    ∗ (∃ f, (arg6.view.loc (c : Thread nD τ) ↦[arg6.view.set]{fullShare} f) ∗ ⌜∀ y : S2528x100.Idx, (y 0).val < 32 * k → arg6.view.read (Elt F) f y = rowsOf x0 x1 y⌝))
  step k acc := by
    iintro ⟨HR_arg1, HR_arg2, ⟨%f, HW_arg6, %hf⟩⟩
    iapply (wp_wand_r Idealize.ShloMosaic.frame (wpE (defs₀ (F := F)) 𝒱 (c : Thread nD τ) bd) E)
    isplitl [HR_arg1 HR_arg2 HW_arg6]
    · iapply (trip (F := F) 𝒱 c bd i arg1 harg1 arg2 harg2 arg3 harg3 arg4 harg4 arg5 harg5 arg6 harg6 x0 x1 hx k E f)
      isplitl [HR_arg1]; · iexact HR_arg1
      isplitl [HR_arg2]; · iexact HR_arg2
      iexact HW_arg6
    · iintro %_ ⟨%g, ⟨HR_arg1, HR_arg2, HW_arg6⟩, %hg⟩
      isplitl [HR_arg1]; · iexact HR_arg1
      isplitl [HR_arg2]; · iexact HR_arg2
      iexists g; isplitl [HW_arg6]; · iexact HW_arg6
      ipureintro
      intro y hy
      rw [hg y]
      split
      · rfl
      · next h => exact hf y (by omega)

/-- One tap of the convolution's weights. -/
def tap (x2 : Vec F S9x100x50 .f32) (k : ℕ) (h : ∀ a, (![k, 0, 0] : Fin 3 → ℕ) a + S1x100x50.size a ≤ S9x100x50.size a) : Vec F S1x100x50 .f32 :=
  fun y => x2 ((Rect.unit (s := S9x100x50) ![k, 0, 0] S1x100x50.size h).emb y)

/-- What the convolution's body stores: its payload of the rows the words name, the nine taps and the bias. -/
def convOut (x0 : Vec F S1x1x2528 .i32) (x1 : Vec F S50000x100 .f32) (x2 : Vec F S9x100x50 .f32) (x3 : Vec F S1x50 .f32) : Vec F S1x2500x56 .bf16 :=
  k0_pay1 (rowsOf x0 x1)
    (k0_pay4 (rowsOf x0 x1) (tap x2 0 inb_S9x100x50_S1x100x50_0_0_0) (tap x2 1 inb_S9x100x50_S1x100x50_1_0_0) (tap x2 2 inb_S9x100x50_S1x100x50_2_0_0)
      (tap x2 3 inb_S9x100x50_S1x100x50_3_0_0) (tap x2 4 inb_S9x100x50_S1x100x50_4_0_0))
    (k0_pay5 (rowsOf x0 x1)) (k0_pay6 (tap x2 5 inb_S9x100x50_S1x100x50_5_0_0))
    (tap x2 6 inb_S9x100x50_S1x100x50_6_0_0) (tap x2 7 inb_S9x100x50_S1x100x50_7_0_0) (tap x2 8 inb_S9x100x50_S1x100x50_8_0_0)
    (fun y => x3 ((Rect.unit (s := S1x50) ![0, 0] S1x50.size inb_S1x50_S1x50_0_0).emb y))

set_option maxHeartbeats 2000000 in
theorem conv_run (c : Dev nD) (i : grid0.Coords) (arg1 : Memref sig .tc .smem S1x1x2528 .i32) (harg1 : arg1.IsWhole) (arg2 : Memref sig .tc .vmem S50000x100 .f32) (harg2 : arg2.IsWhole)
  (arg3 : Memref sig .tc .vmem S9x100x50 .f32) (harg3 : arg3.IsWhole) (arg4 : Memref sig .tc .vmem S1x50 .f32) (harg4 : arg4.IsWhole) (arg5 : Memref sig .tc .vmem S1x2500x56 .bf16) (harg5 : arg5.IsWhole) (arg6 : Memref sig .tc .vmem S2528x100 .f32) (harg6 : arg6.IsWhole)
    (x0 : Vec F S1x1x2528 .i32) (x1 : Vec F S50000x100 .f32) (x2 : Vec F S9x100x50 .f32) (x3 : Vec F S1x50 .f32) (hx : ∀ y, (x0 y : BitVec 32).toNat < 50000) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (convOut x0 x1 x2 x3) ∗ (∃ d, owns (c : Thread nD τ) arg6 fullShare d)) -∗ K ⟨⟩))
          ⊢ wp frame (wpE (defs₀ (F := F)) Variants.none c none) E (cc0_conv_tanh i arg1 harg1 arg2 harg2 arg3 harg3 arg4 harg4 arg5 harg5 arg6 harg6) K := by
    simp only [cc0_conv_tanh_eq_skeleton]; unfold cc0_conv_tanh_skel
    simp only [k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hx)
    sl_step
    have hr : ∀ f : BufTy.Contents (Elt F) arg6.view.ty, (∀ y : S2528x100.Idx, (y 0).val < 32 * Scf.trips k0_t1_loop.lb k0_t1_loop.ub k0_t1_loop.st → arg6.view.read (Elt F) f y = rowsOf x0 x1 y) →
        arg6.view.readAt (Elt F) (Rect.unit (s := S2528x100) ![0, 0] S2528x100.size inb_S2528x100_S2528x100_0_0).toLoadRect f = rowsOf x0 x1 := by
      intro f hf
      funext y
      have hy : (Rect.unit (s := S2528x100) ![0, 0] S2528x100.size inb_S2528x100_S2528x100_0_0).emb y = y := by
        funext a; apply Fin.ext
        match a with
        | ⟨0, _⟩ => show 0 + 1 * (y 0).val = (y 0).val; omega
        | ⟨1, _⟩ => show 0 + 1 * (y 1).val = (y 1).val; omega
      have ht : Scf.trips k0_t1_loop.lb k0_t1_loop.ub k0_t1_loop.st = 79 := by decide
      show arg6.view.read (Elt F) f ((Rect.unit (s := S2528x100) ![0, 0] S2528x100.size inb_S2528x100_S2528x100_0_0).emb y) = _
      rw [hy]
      exact hf y (by rw [ht]; exact (y 0).isLt)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      rw [View.read_writes_full]
      show k0_pay1 (arg6.view.readAt (Elt F) (Rect.unit (s := S2528x100) ![0, 0] S2528x100.size inb_S2528x100_S2528x100_0_0).toLoadRect fL0)
        (k0_pay4 (arg6.view.readAt (Elt F) (Rect.unit (s := S2528x100) ![0, 0] S2528x100.size inb_S2528x100_S2528x100_0_0).toLoadRect fL0) _ _ _ _ _)
        (k0_pay5 (arg6.view.readAt (Elt F) (Rect.unit (s := S2528x100) ![0, 0] S2528x100.size inb_S2528x100_S2528x100_0_0).toLoadRect fL0)) (k0_pay6 _) _ _ _ _ = _
      rw [hr fL0 hL3]
      simp only [View.readAt_eq_ld, hf2, hf3]
      rfl
    iexists _, _; isplitr; swap; · iexact HS0
    ipureintro; rfl

end Cert.KernelIdeal.Whole

end
-- ==== Proof.Ideal.Reg0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Conv
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t` of the convolution, read from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the convolution stores at point `t`, of the blocks it finds there. -/
def stored0 (c : Dev nD) (t : Fin cfg0.N) : Vec F S1x2500x56 .bf16 := convOut (iblk0 V c 0 t) (iblk0 V c 1 t) (iblk0 V c 2 t) (iblk0 V c 3 t)

/-- The data of the convolution's pipeline: an input's buffer keeps its block, the output's holds what the body stores;
    the invariant is the launch's remaining buffers. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => stored0 V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = stored0 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0) : Memref sig .tc .smem S1x1x2528 .i32) fullShare ((dat0 V c).before 0 t d))
    ∗ (∃ d, owns (c : Thread nD τ) (win0_1.stage (cfg0.slots t 1) : Memref sig .tc .vmem S50000x100 .f32) fullShare ((dat0 V c).before 1 t d))
    ∗ (∃ d, owns (c : Thread nD τ) (win0_2.stage (cfg0.slots t 2) : Memref sig .tc .vmem S9x100x50 .f32) fullShare ((dat0 V c).before 2 t d))
    ∗ (∃ d, owns (c : Thread nD τ) (win0_3.stage (cfg0.slots t 3) : Memref sig .tc .vmem S1x50 .f32) fullShare ((dat0 V c).before 3 t d))
    ∗ (∃ d, owns (c : Thread nD τ) (win0_4.stage (cfg0.slots t 4) : Memref sig .tc .vmem S1x2500x56 .bf16) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0) : Memref sig .tc .smem S1x1x2528 .i32) fullShare ((dat0 V c).after 0 t)
    ∗ owns (c : Thread nD τ) (win0_1.stage (cfg0.slots t 1) : Memref sig .tc .vmem S50000x100 .f32) fullShare ((dat0 V c).after 1 t)
    ∗ owns (c : Thread nD τ) (win0_2.stage (cfg0.slots t 2) : Memref sig .tc .vmem S9x100x50 .f32) fullShare ((dat0 V c).after 2 t)
    ∗ owns (c : Thread nD τ) (win0_3.stage (cfg0.slots t 3) : Memref sig .tc .vmem S1x50 .f32) fullShare ((dat0 V c).after 3 t)
    ∗ owns (c : Thread nD τ) (win0_4.stage (cfg0.slots t 4) : Memref sig .tc .vmem S1x2500x56 .bf16) fullShare ((dat0 V c).after 4 t))

/-- The launch's remaining buffers, the gathered rows' one first. -/
theorem inv0_eq (c : Dev nD) : (Pipeline.ΦA spec0 c : sProp 𝕄)
    = iprop(((∃ d, owns (c : Thread nD τ) (Memref.whole cc0_scratch0 : Memref sig .tc .vmem S2528x100 .f32) fullShare d)
      ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))
      ∗ ∃ r, prngReg c r) := by
  unfold Pipeline.ΦA; rw [scopedRest0_eq]; simp only [owns_whole]; try rfl

set_option maxHeartbeats 1600000 in
/-- The body at any point, from its inputs' blocks. -/
theorem sound_body0 (hx : ∀ c t y, (iblk0 V c 0 t y : BitVec 32).toNat < 50000) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, inv0_eq]
  iintro ⟨⟨⟨HS, HR⟩, Hg⟩, Ho, ⟨%d0, H0⟩, ⟨%d1, H1⟩, ⟨%d2, H2⟩, ⟨%d3, H3⟩, ⟨%d4, H4⟩⟩
  iapply (conv_run c (grid0.coords t) _ _ _ _ _ _ _ _ _ _ _ _ (iblk0 V c 0 t) (iblk0 V c 1 t) (iblk0 V c 2 t) (iblk0 V c 3 t) (hx c t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

theorem defs₀_row0 (t : Fin cfg0.N) : defs₀ (F := F) .tc cfg0.body (cfg0.bodyArgs t (cfg0.slots t)) = bodyAt0 t := by
  unfold defs₀; rw [Defs.onTc_tc]

/-- The body's part of the launch of the convolution, at every point. -/
theorem body_obligation0 (hx : ∀ c t y, (iblk0 V c 0 t y : BitVec 32).toNat < 50000) (c : Dev nD) : BodyObligation (dat0 (F := F) V c) (defs₀ (F := F)) Variants.none () Set.univ := fun t => by
  rw [bigSep_W0, bigSep_W0, defs₀_row0]
  exact triple_restated (sound_body0 V hx c t) rfl .rfl fun _ => .rfl

end Cert.KernelIdeal.Whole

end
-- ==== Proof.Ideal.Attn.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem attn_run (c : Dev nD) (i : grid1.Coords) (arg2 : Memref sig .tc .vmem S8x2500x56 .bf16) (harg2 : arg2.IsWhole) (arg3 : Memref sig .tc .vmem S120x9216 .bf16) (harg3 : arg3.IsWhole) (arg4 : Memref sig .tc .vmem S1x1x1x1024 .f32) (harg4 : arg4.IsWhole)
    (x0 : Vec F S8x2500x56 .bf16) (x1 : Vec F S120x9216 .bf16) (E : Set ℕ) (K : PUnit → sProp 𝕄) :
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare
              (k1_pay1 (fun y => x0 ((Rect.unit (s := S8x2500x56) (k1_off1 i) S1x2500x56.size (k1_off1_inb i)).emb y)) (fun y => x1 ((Rect.unit (s := S120x9216) (k1_off2 i) S56x1024.size (k1_off2_inb i)).emb y))
              (fun y => x1 ((Rect.unit (s := S120x9216) (k1_off3 i) S56x1024.size (k1_off3_inb i)).emb y)) (fun y => x1 ((Rect.unit (s := S120x9216) (k1_off4 i) S1x1024.size (k1_off4_inb i)).emb y)))) -∗ K ⟨⟩))
          ⊢ wp frame (wpE (defs₀ (F := F)) Variants.none c none) E (cc1_label_attn i arg2 harg2 arg3 harg3 arg4 harg4) K := by
    simp only [cc1_label_attn_eq_skeleton]; unfold cc1_label_attn_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; isplitr
    swap; · iexact H2
    ipureintro
    rw [View.read_writes_full]
    simp only [View.readAt_eq_ld, hf0, hf1]
    rfl

end Cert.KernelIdeal.Whole

end
-- ==== Proof.Ideal.Reg1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Attn
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the attention's body stores at the grid point `i`: its payload of the batch's rows of the convolution and of the
    point's columns of the packed weights. -/
def attnOut (i : grid1.Coords) (x0 : Vec F S8x2500x56 .bf16) (x1 : Vec F S120x9216 .bf16) : Vec F S1x1x1x1024 .f32 :=
  k1_pay1 (fun y => x0 ((Rect.unit (s := S8x2500x56) (k1_off1 i) S1x2500x56.size (k1_off1_inb i)).emb y)) (fun y => x1 ((Rect.unit (s := S120x9216) (k1_off2 i) S56x1024.size (k1_off2_inb i)).emb y))
    (fun y => x1 ((Rect.unit (s := S120x9216) (k1_off3 i) S56x1024.size (k1_off3_inb i)).emb y)) (fun y => x1 ((Rect.unit (s := S120x9216) (k1_off4 i) S1x1024.size (k1_off4_inb i)).emb y))

variable (V : (c : Dev nD) → (b : Ref sig .tc) → Buf (Elt F) ((c : Thread nD τ).loc b))

/-- The block of window `w` at point `t` of the attention, read from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the attention stores at point `t`, of the blocks it finds there. -/
def stored1 (c : Dev nD) (t : Fin cfg1.N) : Vec F S1x1x1x1024 .f32 := attnOut (grid1.coords t) (iblk1 V c 0 t) (iblk1 V c 1 t)

/-- The data of the attention's pipeline: an input's buffer keeps its block, the output's holds what the body stores;
    the invariant is the launch's remaining buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => stored1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = stored1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0) : Memref sig .tc .vmem S8x2500x56 .bf16) fullShare ((dat1 V c).before 0 t d))
    ∗ (∃ d, owns (c : Thread nD τ) (win1_1.stage (cfg1.slots t 1) : Memref sig .tc .vmem S120x9216 .bf16) fullShare ((dat1 V c).before 1 t d))
    ∗ (∃ d, owns (c : Thread nD τ) (win1_2.stage (cfg1.slots t 2) : Memref sig .tc .vmem S1x1x1x1024 .f32) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0) : Memref sig .tc .vmem S8x2500x56 .bf16) fullShare ((dat1 V c).after 0 t)
    ∗ owns (c : Thread nD τ) (win1_1.stage (cfg1.slots t 1) : Memref sig .tc .vmem S120x9216 .bf16) fullShare ((dat1 V c).after 1 t)
    ∗ owns (c : Thread nD τ) (win1_2.stage (cfg1.slots t 2) : Memref sig .tc .vmem S1x1x1x1024 .f32) fullShare ((dat1 V c).after 2 t))

set_option maxHeartbeats 1600000 in
/-- The body at any point, from its inputs' blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (attn_run c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) : defs₀ (F := F) .tc cfg1.body (cfg1.bodyArgs t (cfg1.slots t)) = bodyAt1 t := by
  unfold defs₀; rw [Defs.onTc_tc]

/-- The body's part of the launch of the attention, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Ideal.Loss.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The loss's body run once: from the logits and the targets in its two input buffers it leaves in the output cell the
    payload of both. -/
theorem loss_run (c : Dev nD) (arg0 : Memref sig .tc .vmem S8x8921 .f32) (harg0 : arg0.IsWhole) (arg1 : Memref sig .tc .vmem S8x8921 .f32) (harg1 : arg1.IsWhole) (arg2 : Memref sig .tc .smem S1x1 .f32) (harg2 : arg2.IsWhole)
    (x0 : Vec F S8x8921 .f32) (x1 : Vec F S8x8921 .f32) (E : Set ℕ) (K : PUnit → sProp 𝕄) :
        iprop(owns (c : Thread nD τ) arg0 fullShare x0 ∗ owns (c : Thread nD τ) arg1 fullShare x1 ∗ (∃ d, owns (c : Thread nD τ) arg2 fullShare d)
            ∗ (iprop(owns (c : Thread nD τ) arg0 fullShare x0 ∗ owns (c : Thread nD τ) arg1 fullShare x1 ∗ owns (c : Thread nD τ) arg2 fullShare
              (fun _ => k2_pay1 (fun y => x0 ((Rect.unit (s := S8x8921) ![0, 0] S8x8921.size inb_S8x8921_S8x8921_0_0).emb y)) (fun y => x1 ((Rect.unit (s := S8x8921) ![0, 0] S8x8921.size inb_S8x8921_S8x8921_0_0).emb y)))) -∗ K ⟨⟩))
          ⊢ wp frame (wpE (defs₀ (F := F)) Variants.none c none) E (cc2_bce_loss arg0 harg0 arg1 harg1 arg2 harg2) K := by
    simp only [cc2_bce_loss_eq_skeleton]; unfold cc2_bce_loss_skel
    unfold owns
    iintro ⟨⟨%f0, %hf0, H0⟩, ⟨%f1, %hf1, H1⟩, ⟨%d2, %f2, -, H2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    iexists _; isplitr
    swap; · iexact H2
    ipureintro
    rw [View.read_writes_full]
    simp only [View.readAt_eq_ld, hf0, hf1]
    rfl

end Cert.KernelIdeal.Whole

end
-- ==== Proof.Ideal.Reg2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Loss
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loss's body stores: its payload of the logits and the targets, in the one cell. -/
def lossOut (x0 : Vec F S8x8921 .f32) (x1 : Vec F S8x8921 .f32) : Vec F S1x1 .f32 :=
  fun _ => k2_pay1 (fun y => x0 ((Rect.unit (s := S8x8921) ![0, 0] S8x8921.size inb_S8x8921_S8x8921_0_0).emb y)) (fun y => x1 ((Rect.unit (s := S8x8921) ![0, 0] S8x8921.size inb_S8x8921_S8x8921_0_0).emb y))

variable (V : (c : Dev nD) → (b : Ref sig .tc) → Buf (Elt F) ((c : Thread nD τ).loc b))

/-- The block of window `w` at point `t` of the loss, read from its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the loss stores at point `t`, of the blocks it finds there. -/
def stored2 (c : Dev nD) (t : Fin cfg2.N) : Vec F S1x1 .f32 := lossOut (iblk2 V c 0 t) (iblk2 V c 1 t)

/-- The data of the loss's pipeline: an input's buffer keeps its block, the output's holds what the body stores;
    the invariant is the launch's remaining buffers. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => stored2 V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = stored2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0) : Memref sig .tc .vmem S8x8921 .f32) fullShare ((dat2 V c).before 0 t d))
    ∗ (∃ d, owns (c : Thread nD τ) (win2_1.stage (cfg2.slots t 1) : Memref sig .tc .vmem S8x8921 .f32) fullShare ((dat2 V c).before 1 t d))
    ∗ (∃ d, owns (c : Thread nD τ) (win2_2.stage (cfg2.slots t 2) : Memref sig .tc .smem S1x1 .f32) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (win2_0.stage (cfg2.slots t 0) : Memref sig .tc .vmem S8x8921 .f32) fullShare ((dat2 V c).after 0 t)
    ∗ owns (c : Thread nD τ) (win2_1.stage (cfg2.slots t 1) : Memref sig .tc .vmem S8x8921 .f32) fullShare ((dat2 V c).after 1 t)
    ∗ owns (c : Thread nD τ) (win2_2.stage (cfg2.slots t 2) : Memref sig .tc .smem S1x1 .f32) fullShare ((dat2 V c).after 2 t))

set_option maxHeartbeats 1600000 in
/-- The body at any point, from its inputs' blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (loss_run c _ _ _ _ _ _ (iblk2 V c 0 t) (iblk2 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) : defs₀ (F := F) .tc cfg2.body (cfg2.bodyArgs t (cfg2.slots t)) = bodyAt2 t := by
  unfold defs₀; rw [Defs.onTc_tc]

/-- The body's part of the launch of the loss, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Ideal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Ideal.Reg0
public import proofs.«01_k».proof.Proof.Ideal.Reg1
public import proofs.«01_k».proof.Proof.Ideal.Reg2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit
public import Idealize.ShloMosaic.Lib.Pipeline.RegionArrays

@[expose] public section

set_option maxRecDepth 16384

noncomputable section

namespace Cert.KernelIdeal.Whole

open Cert.KernelIdeal.Gen hiding V0 V1 V2 V3 V4 V5 V6 V7 V8 V9 V10 V11 V12 V13 V14 V15
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One call as a segment of the program -/

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)

abbrev readAt (W : Dev nD → Valuation τ sig (Elt F)) : (c : Dev nD) → (b : Ref sig .tc) → Buf (Elt F) ((c : Thread nD τ).loc b) := fun c b => W c b

set_option backward.isDefEq.respectTransparency.types false in
/-- A call between the contents `W` and `W'` of all buffers, whatever its windows: its arrays are taken out of the
    buffers and put back at what the pipeline leaves. -/
def regOf (pd : (p : Fin 3) → (c : Dev nD) → Dat τ (Elt F) Unit ℕ (UR sig nD τ) ℕ (Pipeline.pin (pcfgs (F := F)) adm p) c)
    (p : Fin 3) (kit : Pipeline.PLaunchFacts (nD := nD) (τ := τ) (pcfgs (F := F)) p) (W W' : Dev nD → Valuation τ sig (Elt F))
    (hbody : ∀ c, Pipeline.BodyObligationLoose (pd p c) defs₀ 𝒱₀ () Set.univ)
    (hΦ : ∀ c i, (pd p c).Φ i = Pipeline.ΦA (Pipeline.pin (pcfgs (F := F)) adm p).spec c)
    (howed : ∀ c t, (pd p c).owed t = 0) (hrec : ∀ c, (pd p c).recorded 0 = Set.univ) (hq : ∀ c w, (pd p c).q w = fullShare)
    (hA : ∀ c w, (pd p c).A w = readAt W c (Pipeline.arrRef (Pipeline.pin (pcfgs (F := F)) adm p).spec w))
    (hF : ∀ c w, (pd p c).arrAt w (Pipeline.pin (pcfgs (F := F)) adm p).N = readAt W' c (Pipeline.arrRef (Pipeline.pin (pcfgs (F := F)) adm p).spec w))
    (hrest : ∀ c b, b ∉ Finset.univ.image (Pipeline.arrRef (Pipeline.pin (pcfgs (F := F)) adm p).spec) → readAt W' c b = readAt W c b) :
    Pipeline.RegionSeg (pcfgs (F := F)) adm pd () defs₀ 𝒱₀ L lv p where
  win := kit.to₀.win
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (readAt W c)
  hentry c := by
    rw [Pipeline.ownSems0_none, Pipeline.prefHeld_of_none _ rfl]
    have hsplit := Pipeline.arrays_of_unscopedBufs (p := p) (pcfgs (F := F)) adm pd kit.win kit.arr_whole c
      ((pd p c).share_full (hq c)) (readAt W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c pd ((pd p c).share_full (hq c))
      (readAt W c) (readAt W' c) ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-! ## The contents of the buffers between the items of the program -/

/-- The buffers at launch. -/
abbrev W0 : Dev nD → Valuation τ sig (Elt F) := fun c b => (s₀ m ρ).mem ((c : Dev nD), b)
/-- After `hostOps0`. -/
def W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After `hostOps0_1`. -/
def W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After `hostOps0_2`. -/
def W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- After call 0: its arrays hold what its pipeline leaves. -/
def W4 (c : Dev nD) : Valuation τ sig (Elt F) :=
  Pipeline.withArrays spec0 c (W3 m ρ c) fun w => (dat0 (readAt (W3 m ρ)) c).arrAt w cfg0.N
theorem W4_arr (c : Dev nD) (w : Fin cfg0.W) :
    W4 m ρ c (Proc.devRef .tc (Pipeline.arrRef spec0 w)) = (dat0 (readAt (W3 m ρ)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (readAt (W3 m ρ)) c).arrAt_in w (h w rfl) _).trans (A_eq0 (readAt (W3 m ρ)) c w))
  · exact W4_of_ne m ρ c r fun w e => hw ⟨w, e⟩
/-- After `hostOps1`. -/
def W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- After `hostOps1_1`. -/
def W6 : Dev nD → Valuation τ sig (Elt F) := fun c => StableHlo.after hostOps1_1 (W5 m ρ c)
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
/-- After `hostOps1_2`. -/
def W7 : Dev nD → Valuation τ sig (Elt F) := fun c => StableHlo.after hostOps1_2 (W6 m ρ c)
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
/-- After `hostOps1_3`. -/
def W8 : Dev nD → Valuation τ sig (Elt F) := fun c => StableHlo.after hostOps1_3 (W7 m ρ c)
theorem W8_of (c : Dev nD) (r : Ref sig .tc) (h : r ∉ hostOps1_3_W) : W8 m ρ c (Proc.devRef .tc r) = W7 m ρ c (Proc.devRef .tc r) :=
  StableHlo.after_of_writes_sub hostOps1_3 _ hostOps1_3_writes h
/-- After `hostOps1_4`. -/
def W9 : Dev nD → Valuation τ sig (Elt F) := fun c => StableHlo.after hostOps1_4 (W8 m ρ c)
theorem W9_of (c : Dev nD) (r : Ref sig .tc) (h : r ∉ hostOps1_4_W) : W9 m ρ c (Proc.devRef .tc r) = W8 m ρ c (Proc.devRef .tc r) :=
  StableHlo.after_of_writes_sub hostOps1_4 _ hostOps1_4_writes h
/-- After `hostOps1_5`. -/
def W10 : Dev nD → Valuation τ sig (Elt F) := fun c => StableHlo.after hostOps1_5 (W9 m ρ c)
theorem W10_of (c : Dev nD) (r : Ref sig .tc) (h : r ∉ hostOps1_5_W) : W10 m ρ c (Proc.devRef .tc r) = W9 m ρ c (Proc.devRef .tc r) :=
  StableHlo.after_of_writes_sub hostOps1_5 _ hostOps1_5_writes h
/-- After `hostOps1_6`. -/
def W11 : Dev nD → Valuation τ sig (Elt F) := fun c => StableHlo.after hostOps1_6 (W10 m ρ c)
theorem W11_of (c : Dev nD) (r : Ref sig .tc) (h : r ∉ hostOps1_6_W) : W11 m ρ c (Proc.devRef .tc r) = W10 m ρ c (Proc.devRef .tc r) :=
  StableHlo.after_of_writes_sub hostOps1_6 _ hostOps1_6_writes h
/-- After call 1: its arrays hold what its pipeline leaves. -/
def W12 (c : Dev nD) : Valuation τ sig (Elt F) :=
  Pipeline.withArrays spec1 c (W11 m ρ c) fun w => (dat1 (readAt (W11 m ρ)) c).arrAt w cfg1.N
theorem W12_arr (c : Dev nD) (w : Fin cfg1.W) :
    W12 m ρ c (Proc.devRef .tc (Pipeline.arrRef spec1 w)) = (dat1 (readAt (W11 m ρ)) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (readAt (W11 m ρ)) c).arrAt_in w (h w rfl) _).trans (A_eq1 (readAt (W11 m ρ)) c w))
  · exact W12_of_ne m ρ c r fun w e => hw ⟨w, e⟩
/-- After `hostOps2`. -/
def W13 : Dev nD → Valuation τ sig (Elt F) := fun c => StableHlo.after hostOps2 (W12 m ρ c)
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
/-- After call 2: its arrays hold what its pipeline leaves. -/
def W14 (c : Dev nD) : Valuation τ sig (Elt F) :=
  Pipeline.withArrays spec2 c (W13 m ρ c) fun w => (dat2 (readAt (W13 m ρ)) c).arrAt w cfg2.N
theorem W14_arr (c : Dev nD) (w : Fin cfg2.W) :
    W14 m ρ c (Proc.devRef .tc (Pipeline.arrRef spec2 w)) = (dat2 (readAt (W13 m ρ)) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (readAt (W13 m ρ)) c).arrAt_in w (h w rfl) _).trans (A_eq2 (readAt (W13 m ρ)) c w))
  · exact W14_of_ne m ρ c r fun w e => hw ⟨w, e⟩
/-- After `hostOps3`. -/
def W15 : Dev nD → Valuation τ sig (Elt F) := fun c => StableHlo.after hostOps3 (W14 m ρ c)
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h

/-- The program's arguments. -/
abbrev argRefs : List (Ref sig .tc) := [main_arg0, main_arg1, main_arg2, main_arg3, main_arg4, main_arg5, main_arg6, main_arg7]
/-- After the first 3 items the arguments are as launched. -/
theorem W3_args (c : Dev nD) : ∀ a ∈ argRefs, W3 m ρ c (Proc.devRef .tc a) = m ((c : Thread nD τ).loc a) := fun a ha =>
  (W3_of m ρ c a ((ListAll.forall_mem_of_all_decide (by decide +kernel) : ∀ a ∈ argRefs, a ∉ hostOps0_2_W) a ha)).trans (
  (W2_of m ρ c a ((ListAll.forall_mem_of_all_decide (by decide +kernel) : ∀ a ∈ argRefs, a ∉ hostOps0_1_W) a ha)).trans (
  (W1_of m ρ c a ((ListAll.forall_mem_of_all_decide (by decide +kernel) : ∀ a ∈ argRefs, a ∉ hostOps0_W) a ha)).trans (
  rfl)))
/-- After the first 11 items the arguments are as launched. -/
theorem W11_args (c : Dev nD) : ∀ a ∈ argRefs, W11 m ρ c (Proc.devRef .tc a) = m ((c : Thread nD τ).loc a) := fun a ha =>
  (W11_of m ρ c a ((ListAll.forall_mem_of_all_decide (by decide +kernel) : ∀ a ∈ argRefs, a ∉ hostOps1_6_W) a ha)).trans (
  (W10_of m ρ c a ((ListAll.forall_mem_of_all_decide (by decide +kernel) : ∀ a ∈ argRefs, a ∉ hostOps1_5_W) a ha)).trans (
  (W9_of m ρ c a ((ListAll.forall_mem_of_all_decide (by decide +kernel) : ∀ a ∈ argRefs, a ∉ hostOps1_4_W) a ha)).trans (
  (W8_of m ρ c a ((ListAll.forall_mem_of_all_decide (by decide +kernel) : ∀ a ∈ argRefs, a ∉ hostOps1_3_W) a ha)).trans (
  (W7_of m ρ c a ((ListAll.forall_mem_of_all_decide (by decide +kernel) : ∀ a ∈ argRefs, a ∉ hostOps1_2_W) a ha)).trans (
  (W6_of m ρ c a ((ListAll.forall_mem_of_all_decide (by decide +kernel) : ∀ a ∈ argRefs, a ∉ hostOps1_1_W) a ha)).trans (
  (W5_of m ρ c a ((ListAll.forall_mem_of_all_decide (by decide +kernel) : ∀ a ∈ argRefs, a ∉ hostOps1_W) a ha)).trans (
  (W4_of m ρ c a ((ListAll.forall_mem_of_all_decide (by decide +kernel) : ∀ a ∈ argRefs, ∀ w : Fin cfg0.W, Pipeline.arrRef spec0 w = a → (cfg0.win w).isOut = false) a ha)).trans (
  W3_args m ρ c a ha))))))))
/-- After the first 13 items the arguments are as launched. -/
theorem W13_args (c : Dev nD) : ∀ a ∈ argRefs, W13 m ρ c (Proc.devRef .tc a) = m ((c : Thread nD τ).loc a) := fun a ha =>
  (W13_of m ρ c a ((ListAll.forall_mem_of_all_decide (by decide +kernel) : ∀ a ∈ argRefs, a ∉ hostOps2_W) a ha)).trans (
  (W12_of m ρ c a ((ListAll.forall_mem_of_all_decide (by decide +kernel) : ∀ a ∈ argRefs, ∀ w : Fin cfg1.W, Pipeline.arrRef spec1 w = a → (cfg1.win w).isOut = false) a ha)).trans (
  W11_args m ρ c a ha))
/-- After the first 15 items the arguments are as launched. -/
theorem W15_args (c : Dev nD) : ∀ a ∈ argRefs, W15 m ρ c (Proc.devRef .tc a) = m ((c : Thread nD τ).loc a) := fun a ha =>
  (W15_of m ρ c a ((ListAll.forall_mem_of_all_decide (by decide +kernel) : ∀ a ∈ argRefs, a ∉ hostOps3_W) a ha)).trans (
  (W14_of m ρ c a ((ListAll.forall_mem_of_all_decide (by decide +kernel) : ∀ a ∈ argRefs, ∀ w : Fin cfg2.W, Pipeline.arrRef spec2 w = a → (cfg2.win w).isOut = false) a ha)).trans (
  W13_args m ρ c a ha))

/-! ## The run -/

def pdats : (p : Fin 3) → (c : Dev nD) → Dat τ (Elt F) Unit ℕ (UR sig nD τ) ℕ (Pipeline.pin (pcfgs (F := F)) adm p) c
  | ⟨0, _⟩ => fun c => dat0 (readAt (W3 m ρ)) c
  | ⟨1, _⟩ => fun c => dat1 (readAt (W11 m ρ)) c
  | ⟨2, _⟩ => fun c => dat2 (readAt (W13 m ρ)) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W15 m ρ c) ∗ ∃ r, prngReg c r)

set_option backward.isDefEq.respectTransparency.types false in
/-- Call 0, from the contents before it to those after it. -/
def reg0 (hx : ∀ c t y, (iblk0 (readAt (W3 m ρ)) c 0 t y : BitVec 32).toNat < 50000) : Pipeline.RegionSeg (pcfgs (F := F)) adm (pdats m ρ) () defs₀ 𝒱₀ L lv 0 :=
  regOf (pdats m ρ) 0 launch0.toP (W3 m ρ) (W4 m ρ) (fun c => (body_obligation0 (readAt (W3 m ρ)) hx c).loose)
    (fun _ _ => rfl) (fun _ _ => rfl) (fun _ => rfl) (fun _ _ => rfl) (fun c w => A_eq0 (readAt (W3 m ρ)) c w)
    (fun c w => (W4_arr m ρ c w).symm)
    (fun c b hb => W4_of_ne m ρ c b fun w e => hb (Finset.mem_image.mpr ⟨w, Finset.mem_univ _, e⟩))

set_option backward.isDefEq.respectTransparency.types false in
/-- Call 1, from the contents before it to those after it. -/
def reg1 : Pipeline.RegionSeg (pcfgs (F := F)) adm (pdats m ρ) () defs₀ 𝒱₀ L lv 1 :=
  regOf (pdats m ρ) 1 launch1.toP (W11 m ρ) (W12 m ρ) (fun c => (body_obligation1 (readAt (W11 m ρ)) c).loose)
    (fun _ _ => rfl) (fun _ _ => rfl) (fun _ => rfl) (fun _ _ => rfl) (fun c w => A_eq1 (readAt (W11 m ρ)) c w)
    (fun c w => (W12_arr m ρ c w).symm)
    (fun c b hb => W12_of_ne m ρ c b fun w e => hb (Finset.mem_image.mpr ⟨w, Finset.mem_univ _, e⟩))

set_option backward.isDefEq.respectTransparency.types false in
/-- Call 2, from the contents before it to those after it. -/
def reg2 : Pipeline.RegionSeg (pcfgs (F := F)) adm (pdats m ρ) () defs₀ 𝒱₀ L lv 2 :=
  regOf (pdats m ρ) 2 launch2.toP (W13 m ρ) (W14 m ρ) (fun c => (body_obligation2 (readAt (W13 m ρ)) c).loose)
    (fun _ _ => rfl) (fun _ _ => rfl) (fun _ => rfl) (fun _ _ => rfl) (fun c w => A_eq2 (readAt (W13 m ρ)) c w)
    (fun c w => (W14_arr m ρ c w).symm)
    (fun c b hb => W14_of_ne m ρ c b fun w e => hb (Finset.mem_image.mpr ⟨w, Finset.mem_univ _, e⟩))

abbrev segs (hx : ∀ c t y, (iblk0 (readAt (W3 m ρ)) c 0 t y : BitVec 32).toNat < 50000) : List (Pipeline.Seg (pcfgs (F := F)) adm (pdats m ρ) () defs₀ 𝒱₀ L lv) :=
  [ .host (hseg hostOps0 hostOps0_sub hostOps0_fresh (W0 m ρ))
    , .host (hseg hostOps0_1 hostOps0_1_sub hostOps0_1_fresh (W1 m ρ))
    , .host (hseg hostOps0_2 hostOps0_2_sub hostOps0_2_fresh (W2 m ρ))
    , .region (reg0 m ρ hx)
    , .host (hseg hostOps1 hostOps1_sub hostOps1_fresh (W4 m ρ))
    , .host (hseg hostOps1_1 hostOps1_1_sub hostOps1_1_fresh (W5 m ρ))
    , .host (hseg hostOps1_2 hostOps1_2_sub hostOps1_2_fresh (W6 m ρ))
    , .host (hseg hostOps1_3 hostOps1_3_sub hostOps1_3_fresh (W7 m ρ))
    , .host (hseg hostOps1_4 hostOps1_4_sub hostOps1_4_fresh (W8 m ρ))
    , .host (hseg hostOps1_5 hostOps1_5_sub hostOps1_5_fresh (W9 m ρ))
    , .host (hseg hostOps1_6 hostOps1_6_sub hostOps1_6_fresh (W10 m ρ))
    , .region (reg1 m ρ)
    , .host (hseg hostOps2 hostOps2_sub hostOps2_fresh (W12 m ρ))
    , .region (reg2 m ρ)
    , .host (hseg hostOps3 hostOps3_sub hostOps3_fresh (W14 m ρ)) ]
theorem main_run (hx : ∀ c t y, (iblk0 (readAt (W3 m ρ)) c 0 t y : BitVec 32).toNat < 50000) (c : Dev nD) : main (F := F) c = Pipeline.Seg.run (segs m ρ hx) := (main_chain c).trans (by chain_rfl)

theorem no_unscoped : ∀ sm : SemLoc sig, sm.isScoped .tc = true := by decide

set_option backward.isDefEq.respectTransparency.types false in
/-- THE RUN: if every word that the convolution reads names a row of the table, then the program terminates from any
    memory with zero counters, every buffer ends at the last contents `W15` and every counter at zero. -/
theorem run_all (hx : ∀ c t y, (iblk0 (readAt (W3 m ρ)) c 0 t y : BitVec 32).toNat < 50000) :
    θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W15 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ hx)
    (fun c Q => by rw [main_run m ρ hx c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨fun c b hb => h c _ (mem_uc b hb), funext fun g => hz g (.inr (no_unscoped g.2))⟩)

end Cert.KernelIdeal.Whole

end
-- ==== Proof.Ideal.Host.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Run
public import Idealize.ShloMosaic.Lib.Claim
public import Idealize.ShloMosaic.Lib.KernelVsHost
public import proofs.«01_k».proof.Proof.Ideal.Rows
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the host operations leave between the calls -/

variable (m : (ℓ : Loc nD τ sig) → Buf (Elt F) ℓ) (ρ : Dev nD → PrngReg)

/-- The input words, four zeros before and twenty-four after each row, as the first call reads them. -/
theorem W3_words (c : Dev nD) : W3 m ρ c (Proc.devRef .tc main_v1) =
    shapeCast S8x1x2528 (pad S8x2528 ![0, 4] ![0, 24] ![0, 0] (m ((c : Thread nD τ).loc main_arg0)) (constantI S_ 32 0#32) pads_S8x2500_S8x2528_000_4240 h_S_) shapeCasts_S8x2528_S8x1x2528 := by
  unfold W3; after_results
  unfold W2; after_results
  unfold W1; after_results
  rfl

/-- The convolution's weights with the tap first, the channel next. -/
theorem W3_taps (c : Dev nD) : W3 m ρ c (Proc.devRef .tc main_v2) =
    transpose S9x100x50 [2, 1, 0] (m ((c : Thread nD τ).loc main_arg3)) transposes_S50x100x9_S9x100x50_2_1_0 := by
  unfold W3; after_results
  unfold W2; after_results
  unfold W1; after_results

/-- The convolution's bias as a row. -/
theorem W3_bias (c : Dev nD) : W3 m ρ c (Proc.devRef .tc main_v3) =
    shapeCast S1x50 (m ((c : Thread nD τ).loc main_arg4)) shapeCasts_S50_S1x50 := by
  unfold W3; after_results
  unfold W2; after_results
  unfold W1; after_results
  rfl

/-- Six stretches of rows stacked, in the narrow float type. -/
def stack (a : FVec F S50x9216 .f32) (z : FVec F S6x9216 .f32) (b : FVec F S50x9216 .f32) (z' : FVec F S6x9216 .f32) (d : FVec F S1x9216 .f32)
    (z'' : FVec F S7x9216 .f32) : FVec F S120x9216 .bf16 :=
  truncf .bf16 (concatenate S120x9216 0 [⟨S50x9216, a⟩, ⟨S6x9216, z⟩, ⟨S50x9216, b⟩, ⟨S6x9216, z'⟩, ⟨S1x9216, d⟩, ⟨S7x9216, z''⟩]
    concatenates_S50x9216_S6x9216_S50x9216_S6x9216_S1x9216_S7x9216_S120x9216_d0) bitsLt_bf16_f32

/-- A weight array widened to 9216 rows by zeros and transposed. -/
def wide (u : FVec F S8921x50 .f32) : FVec F S50x9216 .f32 :=
  transpose S50x9216 [1, 0] (pad S9216x50 ![0, 0] ![295, 0] ![0, 0] u (sitofp .f32 (constantI S_ 32 0#32)) pads_S8921x50_S9216x50_02950_000 h_S_) transposes_S9216x50_S50x9216_1_0

/-- The rows stacked for the second call: the score weights transposed, six rows of zeros, the output weights
    transposed, six rows of zeros, the bias, seven rows of zeros; every array first widened to 9216 columns by zeros. -/
def packed (u fw : FVec F S8921x50 .f32) (fb : FVec F S8921 .f32) : FVec F S120x9216 .bf16 :=
  stack (wide u) (broadcastInDim S6x9216 ![] bcast_S_S6x9216 (constant S_ .f32 0x00000000#32)) (wide fw)
    (broadcastInDim S6x9216 ![] bcast_S_S6x9216 (constant S_ .f32 0x00000000#32))
    (shapeCast S1x9216 (pad S9216 ![0] ![295] ![0] fb (sitofp .f32 (constantI S_ 32 0#32)) pads_S8921_S9216_02950 h_S_) shapeCasts_S9216_S1x9216)
    (broadcastInDim S7x9216 ![] bcast_S_S7x9216 (constant S_ .f32 0x00000000#32))

/-- The operations before the stacking. -/
abbrev beforeStack : List (HloOp τ sig (Elt F)) := hostOps1_6.take 5

theorem W11_stack (c : Dev nD) : W11 m ρ c (Proc.devRef .tc main_v14) =
    stack (StableHlo.after beforeStack (W10 m ρ c) (Proc.devRef .tc main_v6)) (StableHlo.after beforeStack (W10 m ρ c) (Proc.devRef .tc main_v11))
      (StableHlo.after beforeStack (W10 m ρ c) (Proc.devRef .tc main_v8)) (StableHlo.after beforeStack (W10 m ρ c) (Proc.devRef .tc main_v11))
      (StableHlo.after beforeStack (W10 m ρ c) (Proc.devRef .tc main_v10)) (StableHlo.after beforeStack (W10 m ρ c) (Proc.devRef .tc main_v12)) := by
  unfold W11
  simp only [StableHlo.after_cons, StableHlo.after_nil]
  rw [StableHlo.unary_result, StableHlo.nary_result]
  rfl

theorem W6_scores (c : Dev nD) : W6 m ρ c (Proc.devRef .tc main_v5) =
    pad S9216x50 ![0, 0] ![295, 0] ![0, 0] (m ((c : Thread nD τ).loc main_arg5)) (sitofp .f32 (constantI S_ 32 0#32)) pads_S8921x50_S9216x50_02950_000 h_S_ := by
  unfold W6; after_results
  unfold W5; after_results
  rw [W4_of_ne m ρ c main_arg5 (by decide +kernel), W3_args m ρ c main_arg5 (by simp [argRefs])]
  rfl

theorem W8_outs (c : Dev nD) : W8 m ρ c (Proc.devRef .tc main_v7) =
    pad S9216x50 ![0, 0] ![295, 0] ![0, 0] (m ((c : Thread nD τ).loc main_arg6)) (sitofp .f32 (constantI S_ 32 0#32)) pads_S8921x50_S9216x50_02950_000 h_S_ := by
  unfold W8; after_results
  unfold W7; after_results
  rw [W6_of m ρ c main_arg6 (by decide +kernel), W5_of m ρ c main_arg6 (by decide +kernel), W4_of_ne m ρ c main_arg6 (by decide +kernel), W3_args m ρ c main_arg6 (by simp [argRefs])]
  rfl

theorem W10_bias (c : Dev nD) : W10 m ρ c (Proc.devRef .tc main_v9) =
    pad S9216 ![0] ![295] ![0] (m ((c : Thread nD τ).loc main_arg7)) (sitofp .f32 (constantI S_ 32 0#32)) pads_S8921_S9216_02950 h_S_ := by
  unfold W10; after_results
  unfold W9; after_results
  rw [W8_of m ρ c main_arg7 (by decide +kernel), W7_of m ρ c main_arg7 (by decide +kernel),
    W6_of m ρ c main_arg7 (by decide +kernel), W5_of m ρ c main_arg7 (by decide +kernel), W4_of_ne m ρ c main_arg7 (by decide +kernel), W3_args m ρ c main_arg7 (by simp [argRefs])]
  rfl

theorem W10_v6 (c : Dev nD) : W10 m ρ c (Proc.devRef .tc main_v6) = wide (m ((c : Thread nD τ).loc main_arg5)) := by
  rw [W10_of m ρ c main_v6 (by decide +kernel), W9_of m ρ c main_v6 (by decide +kernel), W8_of m ρ c main_v6 (by decide +kernel)]
  unfold W7; after_results
  rw [W6_scores]; rfl

theorem W10_v8 (c : Dev nD) : W10 m ρ c (Proc.devRef .tc main_v8) = wide (m ((c : Thread nD τ).loc main_arg6)) := by
  rw [W10_of m ρ c main_v8 (by decide +kernel)]
  unfold W9; after_results
  rw [W8_outs]; rfl

/-- The second call's weights. -/
theorem W11_packed (c : Dev nD) : W11 m ρ c (Proc.devRef .tc main_v14) =
    packed (m ((c : Thread nD τ).loc main_arg5)) (m ((c : Thread nD τ).loc main_arg6)) (m ((c : Thread nD τ).loc main_arg7)) := by
  rw [W11_stack]
  unfold packed beforeStack
  congr 1

/-- The answers: the second call's array as eight rows of 9216, the first 8921 of each. -/
theorem W13_y (c : Dev nD) : W13 m ρ c (Proc.devRef .tc main_v17) =
    extractStridedSlice S8x8921 ![0, 0] (shapeCast S8x9216 (W12 m ρ c (Proc.devRef .tc main_v15)) shapeCasts_S8x9x1x1024_S8x9216) slices_S8x9216_S8x8921_0_0 := by
  unfold W13; after_results
  rfl

theorem W15_y (c : Dev nD) : W15 m ρ c (Proc.devRef .tc main_v17) = W13 m ρ c (Proc.devRef .tc main_v17) :=
  (W15_of m ρ c main_v17 (by decide +kernel)).trans (W14_of m ρ c main_v17 (by decide +kernel))

/-- The loss as a scalar. -/
theorem W15_loss (c : Dev nD) : W15 m ρ c (Proc.devRef .tc main_v19) =
    shapeCast S_ (W14 m ρ c (Proc.devRef .tc main_v18)) shapeCasts_S1x1_S_ := by
  unfold W15; after_results
  rfl

/-- The words the first call's body loads rows by are in range. -/
theorem block_words (c : Dev nD) (hx : ∀ i, (m ((c : Thread nD τ).loc main_arg0) i : BitVec 32).toNat < 50000) (t : Fin cfg0.N) (y) :
    (iblk0 (readAt (W3 m ρ)) c 0 t y : BitVec 32).toNat < 50000 := by
  unfold iblk0; rw [View.read_apply, cast_eq]
  have e := W3_words m ρ c
  change (W3 m ρ c (Proc.devRef .tc main_v1) _ : BitVec 32).toNat < 50000
  rw [e]
  change (pad _ _ _ _ _ _ _ _ _ : BitVec 32).toNat < 50000
  rw [pad_apply]
  split
  · exact hx _
  · change (0#32).toNat < 50000; decide

end Cert.KernelIdeal.Whole

end
-- ==== Proof.Ideal.Frame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Host
public import Idealize.ShloMosaic.Lib.Claim
public import Idealize.ShloMosaic.Lib.KernelVsHost
public import proofs.«01_k».proof.Proof.Ideal.Rows
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run, and that it leaves the arguments alone -/

variable (m : (ℓ : Loc nD τ sig) → Buf (Elt F) ℓ) (ρ : Dev nD → PrngReg)

/-- With the input words in range the program runs, every buffer ends at `W15` and every semaphore at zero. -/
theorem run_words (hx : ∀ c : Dev nD, ∀ i, (m ((c : Thread nD τ).loc main_arg0) i : BitVec 32).toNat < 50000) :
    θ_run defs (onTc (τ := τ) (main (F := F))) ⟨m, fun _ => 0, ρ⟩ (fun r => (∀ c : Dev nD, ∀ b : Ref sig .tc, ¬ (Proc.devRef .tc b : DevRef τ sig).isScoped →
      r.2.mem ((c.tc : Thread nD τ).loc b) = W15 m ρ c (Proc.devRef .tc b)) ∧ r.2.sem = fun _ => 0) :=
  run_all m ρ fun c t y => block_words m ρ c (hx c) t y

/-- What an argument holds at the end. -/
theorem arg_end {r : PUnit × MemSt nD τ sig (Elt F)} (h : ∀ c : Dev nD, ∀ b : Ref sig .tc, ¬ (Proc.devRef .tc b : DevRef τ sig).isScoped →
      r.2.mem ((c.tc : Thread nD τ).loc b) = W15 m ρ c (Proc.devRef .tc b)) (c : Dev nD) : ∀ a ∈ argRefs,
    r.2.mem ((c.tc : Thread nD τ).loc a) = m ((c.tc : Thread nD τ).loc a) := fun a ha =>
  (h c a ((ListAll.forall_mem_of_all_decide (by decide +kernel) : ∀ a ∈ argRefs, ¬ (Proc.devRef .tc a : DevRef τ sig).isScoped) a ha)).trans (W15_args m ρ c a ha)

/-- The arguments at the end, one by one. -/
theorem args_end {r : PUnit × MemSt nD τ sig (Elt F)} (h : ∀ c : Dev nD, ∀ b : Ref sig .tc, ¬ (Proc.devRef .tc b : DevRef τ sig).isScoped →
      r.2.mem ((c.tc : Thread nD τ).loc b) = W15 m ρ c (Proc.devRef .tc b)) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have k := arg_end m ρ h c
  simp only [argRefs, List.mem_cons, List.not_mem_nil, or_false, forall_eq_or_imp, forall_eq] at k
  exact k

end Cert.KernelIdeal.Whole

end
-- ==== Proof.Math.Softmax.lean ====
module

public import Idealize.ShloMosaic.PureOps.Ideal
public import Mathlib.Tactic.FieldSimp
public import Mathlib.Data.Finset.Fold
public import Mathlib.Data.EReal.Operations

@[expose] public section

/-! # A weighted mean under softmax weights, shifted or not

The reference subtracts the greatest score before taking exponentials and divides every weight by their sum; the kernel
takes the exponentials as they are and divides once at the end. Over the extended reals the two agree where the scores
and the averaged values are reals. -/

namespace Cert.Softmax

open Idealize.ShloMosaic

/-- A finite sum of reals is the real sum. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A nonnegative real factor goes through a finite sum of extended reals. -/
theorem sum_mul_coe {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- A sum of extended reals each of which is a real is a real. -/
theorem real_sum {ι : Type} (t : Finset ι) (f : ι → EReal) (hf : ∀ i, ∃ r : ℝ, f i = r) : ∃ r : ℝ, ∑ i ∈ t, f i = r := by
  choose g hg using hf
  exact ⟨∑ i ∈ t, g i, by simp only [hg]; exact coe_sum t g⟩

/-- The greatest of finitely many reals, at least one, taken from `-∞` on, is a real. -/
theorem real_fold {n : ℕ} (hn : 0 < n) (f : Fin n → EReal) (hf : ∀ i, ∃ r : ℝ, f i = r) :
    ∃ r : ℝ, (Finset.univ : Finset (Fin n)).fold max ⊥ f = r := by
  choose g hg using hf
  have hlo : ((g ⟨0, hn⟩ : ℝ) : EReal) ≤ (Finset.univ : Finset (Fin n)).fold max ⊥ f :=
    Finset.le_fold_max _ |>.2 (Or.inr ⟨⟨0, hn⟩, Finset.mem_univ _, le_of_eq (hg _).symm⟩)
  have hhi : (Finset.univ : Finset (Fin n)).fold max ⊥ f < ⊤ :=
    Finset.fold_max_lt _ |>.2 ⟨bot_lt_top, fun i _ => by rw [hg]; exact EReal.coe_lt_top _⟩
  refine ⟨((Finset.univ : Finset (Fin n)).fold max ⊥ f).toReal, (EReal.coe_toReal hhi.ne ?_).symm⟩
  exact fun e => absurd (e ▸ hlo) (by simp)

variable {n k : ℕ}

/-- The two forms agree. -/
theorem softmax_mean (hn : 0 < n) (h : Fin n → Fin k → EReal) (s : Fin n → EReal) (w : Fin k → EReal) (M : EReal)
    (hh : ∀ l f, ∃ r : ℝ, h l f = r) (hs : ∀ l, ∃ r : ℝ, s l = r) (hM : ∃ r : ℝ, M = r) :
    ∑ f, (∑ l, Ideal.div (Ideal.exp (s l - M)) (∑ l', Ideal.exp (s l' - M)) * h l f) * w f =
      Ideal.div (∑ f, w f * ∑ l, h l f * Ideal.exp (s l)) (∑ l, 1 * Ideal.exp (s l)) := by
  choose H hH using hh
  choose S hS using hs
  obtain ⟨m, rfl⟩ := hM
  simp only [hH, hS, one_mul]
  simp only [← EReal.coe_sub, Ideal.exp_coe, coe_sum]
  haveI : Nonempty (Fin n) := ⟨⟨0, hn⟩⟩
  have hZ : 0 < ∑ l, Real.exp (S l - m) := Finset.sum_pos (fun i _ => Real.exp_pos _) Finset.univ_nonempty
  have hW : 0 < ∑ l, Real.exp (S l) := Finset.sum_pos (fun i _ => Real.exp_pos _) Finset.univ_nonempty
  have hZW : ∑ l, Real.exp (S l - m) = (∑ l, Real.exp (S l)) * Real.exp (-m) := by
    rw [Finset.sum_mul]; exact Finset.sum_congr rfl fun l _ => by rw [← Real.exp_add, sub_eq_add_neg]
  rw [Ideal.div_coe hW.ne', sum_mul_coe _ _ _ (one_div_pos.2 hW).le]
  refine Finset.sum_congr rfl fun f _ => ?_
  have e : ∀ l, Ideal.div (Real.exp (S l - m) : ℝ) (∑ l, Real.exp (S l - m) : ℝ) * (H l f : EReal)
      = ((Real.exp (S l - m) * (1 / ∑ l, Real.exp (S l - m)) * H l f : ℝ) : EReal) := fun l => by
    rw [Ideal.div_coe hZ.ne', ← EReal.coe_mul, ← EReal.coe_mul]
  simp only [e, ← EReal.coe_mul, coe_sum]
  rw [mul_assoc, ← EReal.coe_mul, mul_comm]
  congr 2
  rw [Finset.sum_mul]
  refine Finset.sum_congr rfl fun l _ => ?_
  rw [hZW, sub_eq_add_neg, Real.exp_add]
  have := Real.exp_pos (-m)
  field_simp

end Cert.Softmax

end
-- ==== Proof.Math.Dot.lean ====
module

public import proofs.«01_k».proof.Proof.Math.Softmax
public import Idealize.ShloMosaic.Lib.ValueIdx
public import Idealize.ShloMosaic.PureOps.Ideal.Laws

@[expose] public section

/-! # A contraction over one axis as a sum over its coordinate -/

namespace Cert.Model

open Idealize.ShloMosaic Idealize.ShloMosaic.ValueIdx

/-- The sum over a one-axis contraction index, the operand indices named by the axis's coordinate. -/
theorem sum_contr {sl sr so : Shape} (D : DotDims sl sr so) (n : ℕ) (hr : D.contr.rank = 1) (hs : D.contr.size ⟨0, by omega⟩ = n)
    (lhs : sl.Idx → EReal) (rhs : sr.Idx → EReal) (j : so.Idx) (L : Fin n → sl.Idx) (R : Fin n → sr.Idx)
    (hl : ∀ k, D.lhsIdx j ((contrEquiv1 D n hr hs).symm k) = L k) (hR : ∀ k, D.rhsIdx j ((contrEquiv1 D n hr hs).symm k) = R k) :
    ∑ k : D.contr.Idx, lhs (D.lhsIdx j k) * rhs (D.rhsIdx j k) = ∑ k : Fin n, lhs (L k) * rhs (R k) := by
  rw [← Equiv.sum_comp (contrEquiv1 D n hr hs).symm]
  exact Finset.sum_congr rfl fun k _ => by rw [hl, hR]

end Cert.Model

end
-- ==== Proof.Math.Model.lean ====
module

public import proofs.«01_k».proof.Proof.Math.Softmax
public import Idealize.ShloMosaic.Lib.ValueIdx
public import Idealize.ShloMosaic.PureOps.Ideal.Laws

@[expose] public section

/-! # The network in plain sums

The lookup padded by four rows of zeros at either end, the convolution of width nine with its bias under the hyperbolic
tangent, one softmax-weighted mean of the hidden rows for each label, a weighted sum of it, and the loss of one answer;
the softmax with its division at the end. -/

namespace Cert.Model

open Idealize.ShloMosaic

variable (x : Fin 8 → Fin 2500 → BitVec 32) (we : Fin 50000 → Fin 100 → EReal) (cw : Fin 50 → Fin 100 → Fin 9 → EReal) (cb : Fin 50 → EReal)
  (u fw : Fin 8921 → Fin 50 → EReal) (fb : Fin 8921 → EReal)

/-- Place `p` of the padded lookup of row `b`, channel `e`. -/
noncomputable def emb (b : Fin 8) (p : ℕ) (e : Fin 100) : EReal :=
  if h : 4 ≤ p ∧ p < 2504 then we ⟨(x b ⟨p - 4, by omega⟩).toNat % 50000, Nat.mod_lt _ (by decide)⟩ e else 0

/-- One tap's contribution. -/
noncomputable def tapSum (b : Fin 8) (l : Fin 2500) (f : Fin 50) (k : Fin 9) : EReal := ∑ e, emb x we b (l.val + k.val) e * cw f e k

/-- Nine numbers added from the first on. -/
noncomputable def nine (d : Fin 9 → EReal) : EReal := d 0 + d 1 + d 2 + d 3 + d 4 + d 5 + d 6 + d 7 + d 8

/-- The hidden value at place `l`, filter `f`. -/
noncomputable def hid (b : Fin 8) (l : Fin 2500) (f : Fin 50) : EReal := Ideal.tanh (nine (tapSum x we cw b l f) + cb f)

/-- The score of place `l` for label `y`. -/
noncomputable def score (b : Fin 8) (l : Fin 2500) (y : Fin 8921) : EReal := ∑ f, hid x we cw cb b l f * u y f

/-- The answer for label `y`. -/
noncomputable def ans (b : Fin 8) (y : Fin 8921) : EReal :=
  Ideal.div (∑ f, fw y f * ∑ l, hid x we cw cb b l f * Ideal.exp (score x we cw cb u b l y)) (∑ l, 1 * Ideal.exp (score x we cw cb u b l y)) + fb y

/-- The loss of the answer `y` against the target `t`. -/
noncomputable def bce (y t : EReal) : EReal := max y 0 - y * t + Ideal.log1p (Ideal.exp (-(max y (-y))))

/-- A hidden value is a real. -/
theorem hid_real (b : Fin 8) (l : Fin 2500) (f : Fin 50) : ∃ r : ℝ, hid x we cw cb b l f = r := by
  unfold hid
  generalize nine (tapSum x we cw b l f) + cb f = z
  induction z using EReal.rec with
  | bot => exact ⟨-1, by rw [Ideal.tanh_bot]; simp⟩
  | coe r => exact ⟨Real.tanh r, Ideal.tanh_coe r⟩
  | top => exact ⟨1, by rw [Ideal.tanh_top]; simp⟩

/-- A score is a real where the score weights are. -/
theorem score_real (hu : ∀ y f, ∃ r : ℝ, u y f = r) (b : Fin 8) (l : Fin 2500) (y : Fin 8921) : ∃ r : ℝ, score x we cw cb u b l y = r := by
  refine Softmax.real_sum _ _ fun f => ?_
  obtain ⟨h, hh⟩ := hid_real x we cw cb b l f
  obtain ⟨v, hv⟩ := hu y f
  exact ⟨h * v, by rw [hh, hv, EReal.coe_mul]⟩

end Cert.Model

end
-- ==== Proof.Ideal.ConvVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Conv
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The convolution's payload at an index -/

open Idealize.ShloMosaic.ValueIdx (addf_apply)
open Cert.Model

/-- One tap: rows `k` on of the looked-up rows against the tap's weights. -/
theorem tap_dot (v : FVec Ideal S2528x100 .f32) (x2 : FVec Ideal S9x100x50 .f32) (k : Fin 9) (h) (hs) (l : Fin 2500) (f : Fin 50) :
    matmul (F := Idealize.ShloMosaic.Ideal) (φ₁ := .f32) (φ₂ := .f32) dot_S2500x100_S100x50_S2500x50_1_0_0_1_n_n none (extractStridedSlice S2500x100 ![k.val, 0] v hs)
      (shapeCast (α := Idealize.ShloMosaic.Ideal .f32) S100x50 (tap (F := Idealize.ShloMosaic.Ideal) x2 k.val h) shapeCasts_S1x100x50_S100x50) (constant S2500x50 .f32 0x00000000#32) (ix2 l f)
      = ∑ e : Fin 100, v (ix2 (⟨l.val + k.val, by omega⟩ : Fin 2528) e) * x2 (ix3 k e f) := by
  refine (Ideal.matmul_constant_zero_apply _ _ _ _ _).trans ?_
  rw [sum_contr dot_S2500x100_S100x50_S2500x50_1_0_0_1_n_n 100 rfl rfl _ _ _ (fun e => ix2 l e) (fun e => ix2 e f)
    (fun e => by funext a; match a with | ⟨0, _⟩ => rfl | ⟨1, _⟩ => rfl)
    (fun e => by funext a; match a with | ⟨0, _⟩ => rfl | ⟨1, _⟩ => rfl)]
  refine Finset.sum_congr rfl fun e _ => ?_
  congr 1
  · refine extractStridedSlice_apply _ _ _ _ _ fun a => ?_
    match a with
    | ⟨0, _⟩ => exact Nat.add_comm _ _
    | ⟨1, _⟩ => exact (Nat.zero_add _).symm
  · rw [shapeCast_apply _ _ _ (ix3 (0 : Fin 1) e f) (by rw [Shape.rowMajor_val_three, Shape.rowMajor_val_two]; simp)]
    unfold tap
    congr 1
    funext a; apply Fin.ext
    match a with
    | ⟨0, _⟩ => show k.val + 1 * 0 = k.val; omega
    | ⟨1, _⟩ => show 0 + 1 * e.val = e.val; omega
    | ⟨2, _⟩ => show 0 + 1 * f.val = f.val; omega

/-- A hidden value the first call stores. -/
theorem conv_hidden (x0 : Vec Ideal S1x1x2528 .i32) (x1 : Vec Ideal S50000x100 .f32) (x2 : Vec Ideal S9x100x50 .f32) (x3 : Vec Ideal S1x50 .f32)
    (l : Fin 2500) (f : Fin 56) (hf : f.val < 50) :
    convOut x0 x1 x2 x3 (ix3 (0 : Fin 1) l f) =
      Ideal.tanh (nine (fun k => ∑ e : Fin 100, rowsOf x0 x1 (ix2 (⟨l.val + k.val, by omega⟩ : Fin 2528) e) * x2 (ix3 k e (⟨f.val, hf⟩ : Fin 50)))
        + x3 (ix2 (0 : Fin 1) (⟨f.val, hf⟩ : Fin 50))) := by
  unfold convOut
  generalize rowsOf x0 x1 = v
  unfold k0_pay1 k0_pay4 k0_pay5 k0_pay6
  rw [shapeCast_apply _ _ _ (ix2 l f) (by rw [Shape.rowMajor_val_three, Shape.rowMajor_val_two]; simp)]
  rw [concatenate_pair_apply_left (t := S2500x56) (s₁ := S2500x50) (s₂ := S2500x6) _ _ _ _ _ rfl (ix2 l (⟨f.val, hf⟩ : Fin 50)) (fun b => by match b with | ⟨0, _⟩ => rfl | ⟨1, _⟩ => rfl)]
  refine congrArg Ideal.tanh (congrArg₂ (· + ·) ?_ ?_)
  · simp only [addf_apply]
    unfold nine
    congr 1
    · congr 1
      · congr 1
        · congr 1
          · congr 1
            · congr 1
              · congr 1
                · congr 1
                  · exact tap_dot v x2 0 _ _ _ _
                  · exact tap_dot v x2 1 _ _ _ _
                · exact tap_dot v x2 2 _ _ _ _
              · exact tap_dot v x2 3 _ _ _ _
            · exact tap_dot v x2 4 _ _ _ _
          · exact tap_dot v x2 5 _ _ _ _
        · exact tap_dot v x2 6 _ _ _ _
      · exact tap_dot v x2 7 _ _ _ _
    · exact tap_dot v x2 8 _ _ _ _
  · rw [broadcastTo_apply _ _ _ (ix2 (0 : Fin 1) (⟨f.val, hf⟩ : Fin 50)) (fun a => by match a with | ⟨0, _⟩ => rfl | ⟨1, _⟩ => rfl)]
    rw [shapeCast_apply _ _ _ (ix2 (0 : Fin 1) (⟨f.val, hf⟩ : Fin 50)) rfl]
    congr 1
    funext a; apply Fin.ext
    match a with
    | ⟨0, _⟩ => rfl
    | ⟨1, _⟩ => show 0 + 1 * f.val = f.val; omega

/-- The columns from the fiftieth on hold ones. -/
theorem conv_ones (x0 : Vec Ideal S1x1x2528 .i32) (x1 : Vec Ideal S50000x100 .f32) (x2 : Vec Ideal S9x100x50 .f32) (x3 : Vec Ideal S1x50 .f32)
    (l : Fin 2500) (f : Fin 56) (hf : 50 ≤ f.val) : convOut x0 x1 x2 x3 (ix3 (0 : Fin 1) l f) = 1 := by
  unfold convOut k0_pay1
  rw [shapeCast_apply _ _ _ (ix2 l f) (by rw [Shape.rowMajor_val_three, Shape.rowMajor_val_two]; simp)]
  rw [concatenate_pair_apply_right (t := S2500x56) (s₁ := S2500x50) (s₂ := S2500x6) _ _ _ _ _ rfl rfl (ix2 l (⟨f.val - 50, by omega⟩ : Fin 6))
    (fun b hb => by match b with | ⟨0, _⟩ => rfl | ⟨1, _⟩ => exact absurd rfl hb) (by show f.val - 50 + 50 = f.val; omega)]
  exact Ideal.ofBits_one_bf16

end Cert.KernelIdeal.Whole

end
-- ==== Proof.Ideal.Arr.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Reg0
public import proofs.«01_k».proof.Proof.Ideal.Reg1
public import proofs.«01_k».proof.Proof.Ideal.Reg2
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Where each block sits in its array, and what the arrays hold after a call -/

variable {F : FTy → Type} [FloatOps F] [Named F]
variable (V : (c : Dev nD) → (b : Ref sig .tc) → Buf (Elt F) ((c : Thread nD τ).loc b))

/-! ## The first call -/

theorem index0_0 : ∀ t : Fin cfg0.N, win0_0.index t = ![t.val, 0, 0] := (by decide +kernel : ∀ t : Fin grid0.N, win0_0.index t = ![t.val, 0, 0])
theorem index0_1 : ∀ t : Fin cfg0.N, win0_1.index t = ![0, 0] := (by decide +kernel : ∀ t : Fin grid0.N, win0_1.index t = ![0, 0])
theorem index0_2 : ∀ t : Fin cfg0.N, win0_2.index t = ![0, 0, 0] := (by decide +kernel : ∀ t : Fin grid0.N, win0_2.index t = ![0, 0, 0])
theorem index0_3 : ∀ t : Fin cfg0.N, win0_3.index t = ![0, 0] := (by decide +kernel : ∀ t : Fin grid0.N, win0_3.index t = ![0, 0])
theorem index0_4 : ∀ t : Fin cfg0.N, win0_4.index t = ![t.val, 0, 0] := (by decide +kernel : ∀ t : Fin grid0.N, win0_4.index t = ![t.val, 0, 0])
theorem flush0_4 : ∀ t : Fin cfg0.N, (cfg0.win 4).flush t = true := (by decide +kernel : ∀ t : Fin grid0.N, win0_4.flush t = true)

/-- The words' block is one row of the words. -/
theorem words_block (c : Dev nD) (t : Fin cfg0.N) (b : Fin 8) (hb : t.val = b.val) (p : Fin 2528) :
    iblk0 V c 0 t (ix3 (0 : Fin 1) (0 : Fin 1) p) = V c main_v1 (ix3 b (0 : Fin 1) p) := by
  unfold iblk0
  rw [View.read_apply, cast_eq]
  refine congrArg (V c main_v1) (funext fun a => Fin.ext ?_)
  refine (Pipeline.Window.rect_emb_val (cfg0.win 0) t _ a).trans ?_
  have e : (cfg0.win 0).index t a = (![b.val, 0, 0] : Fin 3 → ℕ) a := by rw [← hb]; exact congrFun (index0_0 t) a
  rw [e]
  match a with
  | ⟨0, _⟩ => show b.val * 1 + 0 = b.val; omega
  | ⟨1, _⟩ => rfl
  | ⟨2, _⟩ => show 0 * 2528 + p.val = p.val; omega

/-- The table is one block. -/
theorem table_block (c : Dev nD) (t : Fin cfg0.N) (y : S50000x100.Idx) : iblk0 V c 1 t y = V c main_arg2 y := by
  unfold iblk0
  rw [View.read_apply, cast_eq]
  refine congrArg (V c main_arg2) (funext fun a => Fin.ext ?_)
  refine Pipeline.Window.rect_emb_val_of_index_zero (cfg0.win 1) t a ?_ _
  exact (congrFun (index0_1 t) a).trans (by match a with | ⟨0, _⟩ => rfl | ⟨1, _⟩ => rfl)

/-- The taps are one block. -/
theorem taps_block (c : Dev nD) (t : Fin cfg0.N) (y : S9x100x50.Idx) : iblk0 V c 2 t y = V c main_v2 y := by
  unfold iblk0
  rw [View.read_apply, cast_eq]
  refine congrArg (V c main_v2) (funext fun a => Fin.ext ?_)
  refine Pipeline.Window.rect_emb_val_of_index_zero (cfg0.win 2) t a ?_ _
  exact (congrFun (index0_2 t) a).trans (by match a with | ⟨0, _⟩ => rfl | ⟨1, _⟩ => rfl | ⟨2, _⟩ => rfl)

/-- The bias is one block. -/
theorem bias_block (c : Dev nD) (t : Fin cfg0.N) (y : S1x50.Idx) : iblk0 V c 3 t y = V c main_v3 y := by
  unfold iblk0
  rw [View.read_apply, cast_eq]
  refine congrArg (V c main_v3) (funext fun a => Fin.ext ?_)
  refine Pipeline.Window.rect_emb_val_of_index_zero (cfg0.win 3) t a ?_ _
  exact (congrFun (index0_3 t) a).trans (by match a with | ⟨0, _⟩ => rfl | ⟨1, _⟩ => rfl)

theorem disjoint0 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (Fin.ext (congrFun (((index0_4 t).symm.trans h).trans (index0_4 t')) (0 : Fin 3)))

/-- The hidden values after the first call: row `b` is what point `b` stored. -/
theorem hidden_arr (c : Dev nD) (t : Fin cfg0.N) (b : Fin 8) (hb : t.val = b.val) (l : Fin 2500) (f : Fin 56) :
    (dat0 V c).arrAt 4 cfg0.N (ix3 b l f) = stored0 V c t (ix3 (0 : Fin 1) l f) := by
  have h := (dat0 V c).arrAt_emb_eq_flushed 4 disjoint0 t (flush0_4 t) (ix3 (0 : Fin 1) l f)
  have e : ((cfg0.win 4).blk t).view.emb (ix3 (0 : Fin 1) l f) = ix3 b l f := funext fun a => Fin.ext (by
    refine (Pipeline.Window.rect_emb_val (cfg0.win 4) t _ a).trans ?_
    have e : (cfg0.win 4).index t a = (![b.val, 0, 0] : Fin 3 → ℕ) a := by rw [← hb]; exact congrFun (index0_4 t) a
    rw [e]
    match a with
    | ⟨0, _⟩ => show b.val * 1 + 0 = b.val; omega
    | ⟨1, _⟩ => show 0 * 2500 + l.val = l.val; omega
    | ⟨2, _⟩ => show 0 * 56 + f.val = f.val; omega)
  rw [e, cast_eq] at h
  refine h.trans ?_
  show (cfg0.win 4).cut (grid0.coords t) ((dat0 V c).after 4 t) _ = _
  rw [after0_4]
  rfl

/-! ## The second call -/

theorem index1_0 : ∀ t : Fin cfg1.N, win1_0.index t = ![0, 0, 0] := (by decide +kernel : ∀ t : Fin grid1.N, win1_0.index t = ![0, 0, 0])
theorem index1_1 : ∀ t : Fin cfg1.N, win1_1.index t = ![0, 0] := (by decide +kernel : ∀ t : Fin grid1.N, win1_1.index t = ![0, 0])
theorem index1_2 : ∀ t : Fin cfg1.N, win1_2.index t = ![t.val / 9, t.val % 9, 0, 0] :=
  (by decide +kernel : ∀ t : Fin grid1.N, win1_2.index t = ![t.val / 9, t.val % 9, 0, 0])
theorem flush1_2 : ∀ t : Fin cfg1.N, (cfg1.win 2).flush t = true := (by decide +kernel : ∀ t : Fin grid1.N, win1_2.flush t = true)

/-- The hidden values are one block. -/
theorem hidden_block (c : Dev nD) (t : Fin cfg1.N) (y : S8x2500x56.Idx) : iblk1 V c 0 t y = V c main_v4 y := by
  unfold iblk1
  rw [View.read_apply, cast_eq]
  refine congrArg (V c main_v4) (funext fun a => Fin.ext ?_)
  refine Pipeline.Window.rect_emb_val_of_index_zero (cfg1.win 0) t a ?_ _
  exact (congrFun (index1_0 t) a).trans (by match a with | ⟨0, _⟩ => rfl | ⟨1, _⟩ => rfl | ⟨2, _⟩ => rfl)

/-- The packed weights are one block. -/
theorem packed_block (c : Dev nD) (t : Fin cfg1.N) (y : S120x9216.Idx) : iblk1 V c 1 t y = V c main_v14 y := by
  unfold iblk1
  rw [View.read_apply, cast_eq]
  refine congrArg (V c main_v14) (funext fun a => Fin.ext ?_)
  refine Pipeline.Window.rect_emb_val_of_index_zero (cfg1.win 1) t a ?_ _
  exact (congrFun (index1_1 t) a).trans (by match a with | ⟨0, _⟩ => rfl | ⟨1, _⟩ => rfl)

theorem disjoint1 (t t' : Fin cfg1.N) (_ : (cfg1.win 2).flush t = true) (_ : (cfg1.win 2).flush t' = true) (hne : t ≠ t') :
    Disjoint ((cfg1.win 2).blk t).view.set ((cfg1.win 2).blk t').view.set :=
  (cfg1.win 2).disjoint_blk fun h => hne (Fin.ext (by
    have e := ((index1_2 t).symm.trans h).trans (index1_2 t')
    have e0 : t.val / 9 = t'.val / 9 := congrFun e (0 : Fin 4)
    have e1 : t.val % 9 = t'.val % 9 := congrFun e (1 : Fin 4)
    omega))

/-- The answers after the second call: block `(b, j)` is what that point stored. -/
theorem answers_arr (c : Dev nD) (t : Fin cfg1.N) (b : Fin 8) (j : Fin 9) (hb : t.val / 9 = b.val) (hj : t.val % 9 = j.val) (k : Fin 1024) :
    (dat1 V c).arrAt 2 cfg1.N (ix4 b j (0 : Fin 1) k) = stored1 V c t (ix4 (0 : Fin 1) (0 : Fin 1) (0 : Fin 1) k) := by
  have h := (dat1 V c).arrAt_emb_eq_flushed 2 disjoint1 t (flush1_2 t) (ix4 (0 : Fin 1) (0 : Fin 1) (0 : Fin 1) k)
  have e : ((cfg1.win 2).blk t).view.emb (ix4 (0 : Fin 1) (0 : Fin 1) (0 : Fin 1) k) = ix4 b j (0 : Fin 1) k := funext fun a => Fin.ext (by
    refine (Pipeline.Window.rect_emb_val (cfg1.win 2) t _ a).trans ?_
    have e : (cfg1.win 2).index t a = (![b.val, j.val, 0, 0] : Fin 4 → ℕ) a := by rw [← hb, ← hj]; exact congrFun (index1_2 t) a
    rw [e]
    match a with
    | ⟨0, _⟩ => show b.val * 1 + 0 = b.val; omega
    | ⟨1, _⟩ => show j.val * 1 + 0 = j.val; omega
    | ⟨2, _⟩ => rfl
    | ⟨3, _⟩ => show 0 * 1024 + k.val = k.val; omega)
  rw [e, cast_eq] at h
  refine h.trans ?_
  show (cfg1.win 2).cut (grid1.coords t) ((dat1 V c).after 2 t) _ = _
  rw [after1_2]
  rfl

/-! ## The third call -/

/-- The answers are one block. -/
theorem y_block (c : Dev nD) (t : Fin cfg2.N) (y : S8x8921.Idx) : iblk2 V c 0 t y = V c main_v17 y := by
  unfold iblk2
  rw [View.read_apply, cast_eq]
  refine congrArg (V c main_v17) (funext fun a => Fin.ext ?_)
  refine Pipeline.Window.rect_emb_val_of_index_zero (cfg2.win 0) t a ?_ _
  rfl

/-- The targets are one block. -/
theorem t_block (c : Dev nD) (t : Fin cfg2.N) (y : S8x8921.Idx) : iblk2 V c 1 t y = V c main_arg1 y := by
  unfold iblk2
  rw [View.read_apply, cast_eq]
  refine congrArg (V c main_arg1) (funext fun a => Fin.ext ?_)
  refine Pipeline.Window.rect_emb_val_of_index_zero (cfg2.win 1) t a ?_ _
  rfl

/-- The loss after the third call. -/
theorem loss_arr (c : Dev nD) (t : Fin cfg2.N) (y : S1x1.Idx) : (dat2 V c).arrAt 2 cfg2.N y = stored2 V c t y := by
  have h := (dat2 V c).arrAt_emb_eq_flushed 2 (fun t t' _ _ hne => absurd (Fin.ext (by have := t.isLt; have := t'.isLt; have : cfg2.N = 1 := rfl; omega)) hne)
    t (by revert t; exact (by decide +kernel : ∀ t : Fin grid2.N, win2_2.flush t = true)) y
  have e : ((cfg2.win 2).blk t).view.emb y = y := funext fun a => Fin.ext (Pipeline.Window.rect_emb_val_of_index_zero (cfg2.win 2) t a rfl _)
  rw [e, cast_eq] at h
  refine h.trans ?_
  show (cfg2.win 2).cut (grid2.coords t) ((dat2 V c).after 2 t) _ = _
  rw [after2_2]
  rfl

end Cert.KernelIdeal.Whole

end
-- ==== Proof.Ideal.HidVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.ConvVal
public import proofs.«01_k».proof.Proof.Ideal.Arr
public import proofs.«01_k».proof.Proof.Ideal.Host
public import Idealize.ShloMosaic.Lib.KernelVsHost
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The hidden values the first call leaves -/

open Cert.Model

variable (m : (ℓ : Loc nD τ sig) → Buf (Elt Idealize.ShloMosaic.Ideal) ℓ) (ρ : Dev nD → PrngReg) (c : Dev nD)

/-! ## The arguments by their coordinates -/

def aX (b : Fin 8) (l : Fin 2500) : BitVec 32 := m ((c : Thread nD τ).loc main_arg0) (ix2 b l)
def aT (b : Fin 8) (y : Fin 8921) : EReal := m ((c : Thread nD τ).loc main_arg1) (ix2 b y)
def aE (r : Fin 50000) (e : Fin 100) : EReal := m ((c : Thread nD τ).loc main_arg2) (ix2 r e)
def aC (f : Fin 50) (e : Fin 100) (k : Fin 9) : EReal := m ((c : Thread nD τ).loc main_arg3) (ix3 f e k)
def aD (f : Fin 50) : EReal := m ((c : Thread nD τ).loc main_arg4) (ix1 f)
def aU (y : Fin 8921) (f : Fin 50) : EReal := m ((c : Thread nD τ).loc main_arg5) (ix2 y f)
def aW (y : Fin 8921) (f : Fin 50) : EReal := m ((c : Thread nD τ).loc main_arg6) (ix2 y f)
def aB (y : Fin 8921) : EReal := m ((c : Thread nD τ).loc main_arg7) (ix1 y)

/-- The word at place `p` of row `b`: the input's, or zero on the padding. -/
theorem word_at (b : Fin 8) (p : Fin 2528) : (readAt (W3 m ρ) c main_v1 (ix3 b (0 : Fin 1) p) : BitVec 32) =
    if h : 4 ≤ p.val ∧ p.val < 2504 then aX m c b ⟨p.val - 4, by omega⟩ else 0#32 := by
  refine (congrFun (W3_words m ρ c) (ix3 b (0 : Fin 1) p)).trans ?_
  rw [shapeCast_apply _ _ _ (ix2 b p) (by rw [Shape.rowMajor_val_three, Shape.rowMajor_val_two]; simp)]
  split
  · rename_i h
    exact pad_apply_of_inside _ _ _ _ _ _ _ _ (ix2 b (⟨p.val - 4, by omega⟩ : Fin 2500)) (fun a => by
      match a with
      | ⟨0, _⟩ => show b.val = 0 + b.val * 1; omega
      | ⟨1, _⟩ => show p.val = 4 + (p.val - 4) * 1; omega)
  · rename_i h
    exact pad_apply_of_not_inside _ _ _ _ _ _ _ _ (1 : Fin 2) (by
      show ¬(4 ≤ p.val ∧ (p.val - 4) % 1 = 0 ∧ (p.val - 4) / 1 < 2500); omega)

/-- The looked-up row at place `p`: the padded lookup, the table's row `0` being zeros. -/
theorem rows_emb (hz : ∀ e, aE m c 0 e = 0) (t : Fin cfg0.N) (b : Fin 8) (hb : t.val = b.val) (p : Fin 2528) (e : Fin 100) :
    rowsOf (iblk0 (readAt (W3 m ρ)) c 0 t) (iblk0 (readAt (W3 m ρ)) c 1 t) (ix2 p e) = emb (aX m c) (aE m c) b p.val e := by
  unfold rowsOf
  rw [table_block]
  have hw := words_block (readAt (W3 m ρ)) c t b hb p
  show readAt (W3 m ρ) c main_arg2 (ix2 (rowOf (iblk0 (readAt (W3 m ρ)) c 0 t (ix3 (0 : Fin 1) (0 : Fin 1) p))) e) = _
  rw [hw, word_at]
  have ha : readAt (W3 m ρ) c main_arg2 = m ((c : Thread nD τ).loc main_arg2) := W3_args m ρ c main_arg2 (by simp [argRefs])
  rw [ha]
  unfold emb
  split
  · rfl
  · exact hz e

/-- What the first call leaves in a column before the fiftieth. -/
theorem hidden_val (hz : ∀ e, aE m c 0 e = 0) (b : Fin 8) (l : Fin 2500) (f : Fin 56) (hf : f.val < 50) :
    (dat0 (readAt (W3 m ρ)) c).arrAt 4 cfg0.N (ix3 b l f) = hid (aX m c) (aE m c) (aC m c) (aD m c) b l ⟨f.val, hf⟩ := by
  rw [hidden_arr (readAt (W3 m ρ)) c (⟨b.val, b.isLt⟩ : Fin 8) b rfl]
  unfold stored0
  refine (conv_hidden _ _ _ _ l f hf).trans ?_
  unfold hid
  refine congrArg Ideal.tanh (congrArg₂ (· + ·) (congrArg nine (funext fun k => ?_)) ?_)
  · unfold tapSum
    refine Finset.sum_congr rfl fun e _ => ?_
    refine congrArg₂ (· * ·) ?_ ?_
    · exact rows_emb m ρ c hz _ b rfl _ e
    · refine (taps_block _ c _ _).trans ((congrFun (W3_taps m ρ c) _).trans ?_)
      exact transpose_apply _ _ _ _ (ix3 (⟨f.val, hf⟩ : Fin 50) e k) (fun a => by match a with | ⟨0, _⟩ => rfl | ⟨1, _⟩ => rfl | ⟨2, _⟩ => rfl)
  · refine (bias_block _ c _ _).trans ((congrFun (W3_bias m ρ c) _).trans ?_)
    exact shapeCast_apply _ _ _ (ix1 (⟨f.val, hf⟩ : Fin 50)) (by rw [Shape.rowMajor_val_two, Shape.rowMajor_val_one]; simp)

/-- What it leaves from the fiftieth column on. -/
theorem hidden_one (b : Fin 8) (l : Fin 2500) (f : Fin 56) (hf : 50 ≤ f.val) :
    (dat0 (readAt (W3 m ρ)) c).arrAt 4 cfg0.N (ix3 b l f) = (1 : EReal) := by
  rw [hidden_arr (readAt (W3 m ρ)) c (⟨b.val, b.isLt⟩ : Fin 8) b rfl]
  exact conv_ones _ _ _ _ l f hf

end Cert.KernelIdeal.Whole

end
-- ==== Proof.Ideal.AttnVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Reg1
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The attention's payload at an index -/

open Cert.Model

/-- Two to the score times the reciprocal of the logarithm of two is the exponential of the score. -/
theorem exp2_log2e (r : ℝ) : Ideal.exp2 ((r : EReal) * (((Real.log 2)⁻¹ : ℝ) : EReal)) = Ideal.exp (r : EReal) := by
  rw [← EReal.coe_mul, Ideal.exp2_coe, Ideal.exp_coe]
  congr 1
  show (2 : ℝ) ^ (r * (Real.log 2)⁻¹) = _
  rw [Real.rpow_def_of_pos two_pos]
  congr 1
  have : Real.log 2 ≠ 0 := (Real.log_pos one_lt_two).ne'
  field_simp

/-- The scores: hidden rows against a label's column of score weights. -/
theorem score_dot (A : FVec Idealize.ShloMosaic.Ideal S2500x56 .bf16) (B : FVec Idealize.ShloMosaic.Ideal S56x1024 .bf16) (l : Fin 2500) (k : Fin 1024) :
    matmul dot_S2500x56_S56x1024_S2500x1024_1_0_0_1_n_n none A B (constant S2500x1024 .f32 0x00000000#32) (ix2 l k)
      = ∑ f : Fin 56, A (ix2 l f) * B (ix2 f k) := by
  refine (Ideal.matmul_constant_zero_apply _ none _ _ _).trans ?_
  exact sum_contr dot_S2500x56_S56x1024_S2500x1024_1_0_0_1_n_n 56 rfl rfl _ _ _ (fun f => ix2 l f) (fun f => ix2 f k)
    (fun e => by funext a; match a with | ⟨0, _⟩ => rfl | ⟨1, _⟩ => rfl)
    (fun e => by funext a; match a with | ⟨0, _⟩ => rfl | ⟨1, _⟩ => rfl)

/-- The weighted sums: a hidden column against a label's column of weights. -/
theorem mean_dot (A : FVec Idealize.ShloMosaic.Ideal S2500x56 .bf16) (B : FVec Idealize.ShloMosaic.Ideal S2500x1024 .bf16) (f : Fin 56) (k : Fin 1024) :
    matmul dot_S2500x56_S2500x1024_S56x1024_0_0_1_1_n_n none A B (constant S56x1024 .f32 0x00000000#32) (ix2 f k)
      = ∑ l : Fin 2500, A (ix2 l f) * B (ix2 l k) := by
  refine (Ideal.matmul_constant_zero_apply _ none _ _ _).trans ?_
  exact sum_contr dot_S2500x56_S2500x1024_S56x1024_0_0_1_1_n_n 2500 rfl rfl _ _ _ (fun l => ix2 l f) (fun l => ix2 l k)
    (fun e => by funext a; match a with | ⟨0, _⟩ => rfl | ⟨1, _⟩ => rfl)
    (fun e => by funext a; match a with | ⟨0, _⟩ => rfl | ⟨1, _⟩ => rfl)

/-- The weight of place `l` for label column `k`. -/
def wgt (H : Fin 2500 → Fin 56 → EReal) (U : Fin 56 → EReal) (l : Fin 2500) : EReal :=
  Ideal.exp2 ((∑ f, H l f * U f) * (((Real.log 2)⁻¹ : ℝ) : EReal))

/-- The attention's payload: the quotient of the two sums, plus the bias. -/
theorem attn_pay (v3 : Vec Idealize.ShloMosaic.Ideal S1x2500x56 .bf16) (v6 v9 : Vec Idealize.ShloMosaic.Ideal S56x1024 .bf16) (v12 : Vec Idealize.ShloMosaic.Ideal S1x1024 .bf16)
    (H : Fin 2500 → Fin 56 → EReal) (U W : Fin 56 → EReal) (B : EReal) (k : Fin 1024)
    (hH : ∀ l f, v3 (ix3 (0 : Fin 1) l f) = H l f) (hU : ∀ f, v6 (ix2 f k) = U f) (hW : ∀ f, v9 (ix2 f k) = W f) (hB : v12 (ix2 (0 : Fin 1) k) = B) :
    k1_pay1 v3 v6 v9 v12 (ix4 (0 : Fin 1) (0 : Fin 1) (0 : Fin 1) k) =
      Ideal.div (∑ f, W f * ∑ l, H l f * wgt H U l) (∑ l, H l 50 * wgt H U l) + B := by
  unfold k1_pay1
  rw [shapeCast_apply _ _ _ (ix2 (0 : Fin 1) k) (by rw [Shape.rowMajor_val_two, Shape.rowMajor_val_four]; simp)]
  have hA : ∀ l f, shapeCast S2500x56 v3 shapeCasts_S1x2500x56_S2500x56 (ix2 l f) = H l f := fun l f => by
    rw [shapeCast_apply _ _ _ (ix3 (0 : Fin 1) l f) (by rw [Shape.rowMajor_val_three, Shape.rowMajor_val_two]; simp), hH]
  have hU' : ∀ f, shapeCast S56x1024 v6 shapeCasts_S56x1024_S56x1024 (ix2 f k) = U f := fun f => by
    rw [shapeCast_apply _ _ _ (ix2 f k) rfl, hU]
  have hW' : ∀ f, shapeCast S56x1024 v9 shapeCasts_S56x1024_S56x1024 (ix2 f k) = W f := fun f => by
    rw [shapeCast_apply _ _ _ (ix2 f k) rfl, hW]
  generalize shapeCast S2500x56 v3 shapeCasts_S1x2500x56_S2500x56 = A at hA ⊢
  generalize shapeCast S56x1024 v6 shapeCasts_S56x1024_S56x1024 = U' at hU' ⊢
  generalize shapeCast S56x1024 v9 shapeCasts_S56x1024_S56x1024 = W' at hW' ⊢
  have hE : ∀ l : Fin 2500, (exp2 (mulf (matmul dot_S2500x56_S56x1024_S2500x1024_1_0_0_1_n_n none A U' (constant S2500x1024 .f32 0x00000000#32))
      (broadcast S2500x1024 (Named.named (F := Idealize.ShloMosaic.Ideal) κ "log2e" 0x3FB8AA3B#32))) (ix2 l k) : EReal) = wgt H U l := fun l => by
    show Ideal.exp2 (matmul (F := Idealize.ShloMosaic.Ideal) dot_S2500x56_S56x1024_S2500x1024_1_0_0_1_n_n none A U' (constant S2500x1024 .f32 0x00000000#32) (ix2 l k) * (((Real.log 2)⁻¹ : ℝ) : EReal)) = _
    rw [score_dot]
    simp only [hA, hU', wgt]
  generalize (exp2 (mulf (matmul dot_S2500x56_S56x1024_S2500x1024_1_0_0_1_n_n none A U' (constant S2500x1024 .f32 0x00000000#32))
      (broadcast S2500x1024 (Named.named (F := Idealize.ShloMosaic.Ideal) κ "log2e" 0x3FB8AA3B#32)))) = E at hE ⊢
  have hM : ∀ f : Fin 56, matmul dot_S2500x56_S2500x1024_S56x1024_0_0_1_1_n_n none A (truncf .bf16 E bitsLt_bf16_f32) (constant S56x1024 .f32 0x00000000#32) (ix2 f k)
      = ∑ l, H l f * wgt H U l := fun f => by
    rw [mean_dot]
    refine Finset.sum_congr rfl fun l _ => ?_
    rw [hA]; exact congrArg (H l f * ·) (hE l)
  generalize matmul dot_S2500x56_S2500x1024_S56x1024_0_0_1_1_n_n none A (truncf .bf16 E bitsLt_bf16_f32) (constant S56x1024 .f32 0x00000000#32) = M at hM ⊢
  refine congrArg₂ (· + ·) (congrArg₂ Ideal.div ?_ ?_) ?_
  · rw [shapeCast_apply _ _ _ (ix1 k) (by rw [Shape.rowMajor_val_two, Shape.rowMajor_val_one]; simp)]
    refine (Ideal.multiReduction_add_single _ _ _ _ _ _).trans ?_
    refine Finset.sum_congr rfl fun f _ => ?_
    have e : (reduces_S56x1024_S1024.lift (ix1 k) f : S56x1024.Idx) = ix2 f k := funext fun a => Fin.ext (by match a with | ⟨0, _⟩ => rfl | ⟨1, _⟩ => rfl)
    rw [e]
    exact congrArg₂ (· * ·) (hW' f) (hM f)
  · rw [extractStridedSlice_apply _ _ _ _ (ix2 (50 : Fin 56) k) (fun a => by match a with | ⟨0, _⟩ => rfl | ⟨1, _⟩ => exact (Nat.zero_add _).symm)]
    exact hM 50
  · refine (shapeCast_apply _ _ _ (ix2 (0 : Fin 1) k) rfl).trans hB

end Cert.KernelIdeal.Whole

end
-- ==== Proof.Ideal.LossVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Reg2
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The loss's payload -/

open Cert.Model

/-- The loss's payload: the losses' sum divided by their number. -/
theorem loss_pay (v0 v2 : Vec Idealize.ShloMosaic.Ideal S8x8921 .f32) (Y T : Fin 8 → Fin 8921 → EReal)
    (hY : ∀ b y, v0 (ix2 b y) = Y b y) (hT : ∀ b y, v2 (ix2 b y) = T b y) :
    k2_pay1 v0 v2 = Ideal.div (∑ b, ∑ y, bce (Y b y) (T b y)) (Ideal.ofBits .f32 0x478B6400#32) := by
  unfold k2_pay1
  refine congrArg₂ Ideal.div ?_ rfl
  show shapeCast _ _ _ _ = _
  rw [shapeCast_apply _ _ _ (ix1 (0 : Fin 1)) (by rw [Shape.rowMajor_val_three, Shape.rowMajor_val_one]; rfl)]
  refine (Ideal.multiReduction_add_total _ _ _ (fun b => by match b with | ⟨0, _⟩ => rfl) _ _ _).trans ?_
  rw [sum_idx3]
  rw [Fin.sum_univ_one]
  refine Finset.sum_congr rfl fun b _ => Finset.sum_congr rfl fun y _ => ?_
  rw [shapeCast_apply _ _ _ (ix2 b y) (by rw [Shape.rowMajor_val_three, Shape.rowMajor_val_two]; simp)]
  have hY' : shapeCast S8x8921 v0 shapeCasts_S8x8921_S8x8921 (ix2 b y) = Y b y := by rw [shapeCast_apply _ _ _ (ix2 b y) rfl, hY]
  unfold bce
  show max (shapeCast S8x8921 v0 shapeCasts_S8x8921_S8x8921 (ix2 b y)) (Ideal.ofBits .f32 0x00000000#32) - shapeCast S8x8921 v0 shapeCasts_S8x8921_S8x8921 (ix2 b y) * v2 (ix2 b y)
    + Ideal.log1p (Ideal.exp (Ideal.ofBits .f32 0x00000000#32 - max (shapeCast S8x8921 v0 shapeCasts_S8x8921_S8x8921 (ix2 b y)) (-(shapeCast S8x8921 v0 shapeCasts_S8x8921_S8x8921 (ix2 b y))))) = _
  rw [hY', hT, Ideal.ofBits_zero_f32, zero_sub]

end Cert.KernelIdeal.Whole

end
-- ==== Proof.Ideal.Packed.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Host
public import Idealize.ShloMosaic.Lib.KernelVsHost
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The packed weights at an index -/

open Cert.Model

/-- A widened and transposed weight array at a label's column. -/
theorem wide_apply (u : FVec Idealize.ShloMosaic.Ideal S8921x50 .f32) (f : Fin 50) (y : Fin 9216) (hy : y.val < 8921) :
    wide u (ix2 f y) = u (ix2 (⟨y.val, hy⟩ : Fin 8921) f) := by
  unfold wide
  rw [transpose_apply _ _ _ _ (ix2 y f) (fun a => by match a with | ⟨0, _⟩ => rfl | ⟨1, _⟩ => rfl)]
  exact pad_apply_of_inside _ _ _ _ _ _ _ _ (ix2 (⟨y.val, hy⟩ : Fin 8921) f) (fun a => by
    match a with
    | ⟨0, _⟩ => show y.val = 0 + y.val * 1; omega
    | ⟨1, _⟩ => show f.val = 0 + f.val * 1; omega)

/-- The six stacked arrays. -/
abbrev pieces (a : FVec Idealize.ShloMosaic.Ideal S50x9216 .f32) (z : FVec Idealize.ShloMosaic.Ideal S6x9216 .f32) (b : FVec Idealize.ShloMosaic.Ideal S50x9216 .f32)
    (z' : FVec Idealize.ShloMosaic.Ideal S6x9216 .f32) (d : FVec Idealize.ShloMosaic.Ideal S1x9216 .f32) (z'' : FVec Idealize.ShloMosaic.Ideal S7x9216 .f32) :
    List ((s : Shape) × (s.Idx → EReal)) := [⟨S50x9216, a⟩, ⟨S6x9216, z⟩, ⟨S50x9216, b⟩, ⟨S6x9216, z'⟩, ⟨S1x9216, d⟩, ⟨S7x9216, z''⟩]

/-- One of the six stacked arrays at an index. -/
theorem stack_piece (a : FVec Idealize.ShloMosaic.Ideal S50x9216 .f32) (z : FVec Idealize.ShloMosaic.Ideal S6x9216 .f32) (b : FVec Idealize.ShloMosaic.Ideal S50x9216 .f32)
    (z' : FVec Idealize.ShloMosaic.Ideal S6x9216 .f32) (d : FVec Idealize.ShloMosaic.Ideal S1x9216 .f32) (z'' : FVec Idealize.ShloMosaic.Ideal S7x9216 .f32) (r : Fin 120) (y : Fin 9216) :
    (∀ h : r.val < 50, stack a z b z' d z'' (ix2 r y) = a (ix2 ⟨r.val, h⟩ y))
    ∧ (∀ h : 50 ≤ r.val ∧ r.val < 56, stack a z b z' d z'' (ix2 r y) = z (ix2 ⟨r.val - 50, by omega⟩ y))
    ∧ (∀ h : 56 ≤ r.val ∧ r.val < 106, stack a z b z' d z'' (ix2 r y) = b (ix2 ⟨r.val - 56, by omega⟩ y))
    ∧ (∀ h : 106 ≤ r.val ∧ r.val < 112, stack a z b z' d z'' (ix2 r y) = z' (ix2 ⟨r.val - 106, by omega⟩ y))
    ∧ (∀ h : r.val = 112, stack a z b z' d z'' (ix2 r y) = d (ix2 (0 : Fin 1) y)) := by
  refine ⟨fun h => ?_, fun h => ?_, fun h => ?_, fun h => ?_, fun h => ?_⟩
  · exact concatenate_apply_piece (t := S120x9216) 0 (pieces a z b z' d z'') concatenates_S50x9216_S6x9216_S50x9216_S6x9216_S1x9216_S7x9216_S120x9216_d0 (ix2 r y) 0 (by show 0 < 6; decide) S50x9216 a rfl rfl 0 rfl (ix2 (⟨r.val, h⟩ : Fin 50) y) (fun q hq => by match q, hq with | ⟨1, _⟩, _ => rfl | ⟨0, _⟩, hq => exact absurd rfl hq)
      (by show 0 + r.val = r.val; omega)
  · exact concatenate_apply_piece (t := S120x9216) 0 (pieces a z b z' d z'') concatenates_S50x9216_S6x9216_S50x9216_S6x9216_S1x9216_S7x9216_S120x9216_d0 (ix2 r y) 1 (by show 1 < 6; decide) S6x9216 z rfl rfl 50 rfl (ix2 (⟨r.val - 50, by omega⟩ : Fin 6) y) (fun q hq => by match q, hq with | ⟨1, _⟩, _ => rfl | ⟨0, _⟩, hq => exact absurd rfl hq)
      (by show 50 + (r.val - 50) = r.val; omega)
  · exact concatenate_apply_piece (t := S120x9216) 0 (pieces a z b z' d z'') concatenates_S50x9216_S6x9216_S50x9216_S6x9216_S1x9216_S7x9216_S120x9216_d0 (ix2 r y) 2 (by show 2 < 6; decide) S50x9216 b rfl rfl 56 rfl (ix2 (⟨r.val - 56, by omega⟩ : Fin 50) y) (fun q hq => by match q, hq with | ⟨1, _⟩, _ => rfl | ⟨0, _⟩, hq => exact absurd rfl hq)
      (by show 56 + (r.val - 56) = r.val; omega)
  · exact concatenate_apply_piece (t := S120x9216) 0 (pieces a z b z' d z'') concatenates_S50x9216_S6x9216_S50x9216_S6x9216_S1x9216_S7x9216_S120x9216_d0 (ix2 r y) 3 (by show 3 < 6; decide) S6x9216 z' rfl rfl 106 rfl (ix2 (⟨r.val - 106, by omega⟩ : Fin 6) y) (fun q hq => by match q, hq with | ⟨1, _⟩, _ => rfl | ⟨0, _⟩, hq => exact absurd rfl hq)
      (by show 106 + (r.val - 106) = r.val; omega)
  · exact concatenate_apply_piece (t := S120x9216) 0 (pieces a z b z' d z'') concatenates_S50x9216_S6x9216_S50x9216_S6x9216_S1x9216_S7x9216_S120x9216_d0 (ix2 r y) 4 (by show 4 < 6; decide) S1x9216 d rfl rfl 112 rfl (ix2 (0 : Fin 1) y) (fun q hq => by match q, hq with | ⟨1, _⟩, _ => rfl | ⟨0, _⟩, hq => exact absurd rfl hq)
      (by show 112 + 0 = r.val; omega)

/-- The zeros that fill the stack are zero. -/
theorem fill_zero (f : Fin 6) (y : Fin 9216) :
    broadcastInDim S6x9216 ![] bcast_S_S6x9216 (constant (F := Idealize.ShloMosaic.Ideal) S_ .f32 0x00000000#32) (ix2 f y) = (0 : EReal) :=
  Ideal.ofBits_zero_f32

variable (u fw : FVec Idealize.ShloMosaic.Ideal S8921x50 .f32) (fb : FVec Idealize.ShloMosaic.Ideal S8921 .f32) (y : Fin 9216) (hy : y.val < 8921)

/-- A weight row `f` of the fifty-six: the label's weight, and zero from the fiftieth on. -/
def row56 (v : FVec Idealize.ShloMosaic.Ideal S8921x50 .f32) (y : Fin 8921) (f : Fin 56) : EReal := if h : f.val < 50 then v (ix2 y ⟨f.val, h⟩) else 0

/-- The score weights are the first fifty-six rows. -/
theorem packed_scores (f : Fin 56) : packed u fw fb (ix2 (⟨f.val, by omega⟩ : Fin 120) y) = row56 u ⟨y.val, hy⟩ f := by
  unfold packed row56
  obtain ⟨h0, h1, -⟩ := stack_piece (wide u) (broadcastInDim S6x9216 ![] bcast_S_S6x9216 (constant S_ .f32 0x00000000#32)) (wide fw)
    (broadcastInDim S6x9216 ![] bcast_S_S6x9216 (constant S_ .f32 0x00000000#32))
    (shapeCast S1x9216 (pad S9216 ![0] ![295] ![0] fb (sitofp .f32 (constantI S_ 32 0#32)) pads_S8921_S9216_02950 h_S_) shapeCasts_S9216_S1x9216)
    (broadcastInDim S7x9216 ![] bcast_S_S7x9216 (constant S_ .f32 0x00000000#32)) (⟨f.val, by omega⟩ : Fin 120) y
  split
  · rename_i h; exact (h0 h).trans (wide_apply u _ y hy)
  · rename_i h; exact (h1 ⟨by show 50 ≤ f.val; omega, f.isLt⟩).trans (fill_zero _ _)

/-- The output weights are the next fifty-six. -/
theorem packed_outs (f : Fin 56) : packed u fw fb (ix2 (⟨56 + f.val, by omega⟩ : Fin 120) y) = row56 fw ⟨y.val, hy⟩ f := by
  unfold packed row56
  obtain ⟨-, -, h2, h3, -⟩ := stack_piece (wide u) (broadcastInDim S6x9216 ![] bcast_S_S6x9216 (constant S_ .f32 0x00000000#32)) (wide fw)
    (broadcastInDim S6x9216 ![] bcast_S_S6x9216 (constant S_ .f32 0x00000000#32))
    (shapeCast S1x9216 (pad S9216 ![0] ![295] ![0] fb (sitofp .f32 (constantI S_ 32 0#32)) pads_S8921_S9216_02950 h_S_) shapeCasts_S9216_S1x9216)
    (broadcastInDim S7x9216 ![] bcast_S_S7x9216 (constant S_ .f32 0x00000000#32)) (⟨56 + f.val, by omega⟩ : Fin 120) y
  split
  · rename_i h
    refine (h2 ⟨Nat.le_add_right _ _, by show 56 + f.val < 106; omega⟩).trans ((wide_apply fw _ y hy).trans ?_)
    exact congrArg (fun e => fw (ix2 _ e)) (Fin.ext (Nat.add_sub_cancel_left 56 f.val))
  · rename_i h
    exact (h3 ⟨by show 106 ≤ 56 + f.val; omega, by show 56 + f.val < 112; omega⟩).trans (fill_zero _ _)

/-- The bias is the row after them. -/
theorem packed_bias : packed u fw fb (ix2 (112 : Fin 120) y) = fb (ix1 (⟨y.val, hy⟩ : Fin 8921)) := by
  unfold packed
  obtain ⟨-, -, -, -, h4⟩ := stack_piece (wide u) (broadcastInDim S6x9216 ![] bcast_S_S6x9216 (constant S_ .f32 0x00000000#32)) (wide fw)
    (broadcastInDim S6x9216 ![] bcast_S_S6x9216 (constant S_ .f32 0x00000000#32))
    (shapeCast S1x9216 (pad S9216 ![0] ![295] ![0] fb (sitofp .f32 (constantI S_ 32 0#32)) pads_S8921_S9216_02950 h_S_) shapeCasts_S9216_S1x9216)
    (broadcastInDim S7x9216 ![] bcast_S_S7x9216 (constant S_ .f32 0x00000000#32)) (112 : Fin 120) y
  refine (h4 rfl).trans ?_
  rw [shapeCast_apply _ _ _ (ix1 y) (by rw [Shape.rowMajor_val_two, Shape.rowMajor_val_one]; simp)]
  exact pad_apply_of_inside _ _ _ _ _ _ _ _ (ix1 (⟨y.val, hy⟩ : Fin 8921)) (fun a => by
    match a with
    | ⟨0, _⟩ => show y.val = 0 + y.val * 1; omega)

end Cert.KernelIdeal.Whole

end
-- ==== Proof.Ideal.YVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.HidVal
public import proofs.«01_k».proof.Proof.Ideal.AttnVal
public import proofs.«01_k».proof.Proof.Ideal.LossVal
public import proofs.«01_k».proof.Proof.Ideal.Packed
public import Idealize.ShloMosaic.Lib.KernelVsHost
public import proofs.«01_k».proof.Proof.Math.Dot
public import proofs.«01_k».proof.Proof.Math.Model
public import Idealize.ShloMosaic.Lib.ValueIdx
public import Idealize.ShloMosaic.Lib.IdealHost
public import Idealize.ShloMosaic.PureOps.Ideal.Laws
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pointwise
public import Idealize.ShloMosaic.Lib.WritesUnit
public import Idealize.ShloMosaic.Lib.WholeRead
public import Idealize.ShloMosaic.Lib.Pipeline.Value
public import Idealize.ShloMosaic.Lib.Exec
public import Idealize.ShloMosaic.Lib.Pipeline.Kit

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The answers and the loss the launch leaves -/

open Cert.Model

/-- A sum over the fifty-six rows whose last six terms are zero. -/
theorem sum_56 (g : Fin 56 → EReal) (h : ∀ f, 50 ≤ f.val → g f = 0) : ∑ f, g f = ∑ f : Fin 50, g ⟨f.val, by omega⟩ := by
  refine (Fin.sum_univ_add (a := 50) (b := 6) g).trans ?_
  rw [Finset.sum_eq_zero (s := (Finset.univ : Finset (Fin 6))) fun f _ => h _ (Nat.le_add_right 50 f.val), add_zero]
  rfl

theorem off1_1 : ∀ t : Fin cfg1.N, k1_off1 (grid1.coords t) = ![t.val / 9, 0, 0] := (by decide +kernel : ∀ t : Fin grid1.N, k1_off1 (grid1.coords t) = ![t.val / 9, 0, 0])
theorem off1_2 : ∀ t : Fin cfg1.N, k1_off2 (grid1.coords t) = ![0, 1024 * (t.val % 9)] := (by decide +kernel : ∀ t : Fin grid1.N, k1_off2 (grid1.coords t) = ![0, 1024 * (t.val % 9)])
theorem off1_3 : ∀ t : Fin cfg1.N, k1_off3 (grid1.coords t) = ![56, 1024 * (t.val % 9)] := (by decide +kernel : ∀ t : Fin grid1.N, k1_off3 (grid1.coords t) = ![56, 1024 * (t.val % 9)])
theorem off1_4 : ∀ t : Fin cfg1.N, k1_off4 (grid1.coords t) = ![112, 1024 * (t.val % 9)] := (by decide +kernel : ∀ t : Fin grid1.N, k1_off4 (grid1.coords t) = ![112, 1024 * (t.val % 9)])

variable (m : (ℓ : Loc nD τ sig) → Buf (Elt Idealize.ShloMosaic.Ideal) ℓ) (ρ : Dev nD → PrngReg) (c : Dev nD)

/-- The hidden values, when the second call begins, are what the first call left. -/
theorem hidden_kept : W11 m ρ c (Proc.devRef .tc main_v4) = (dat0 (readAt (W3 m ρ)) c).arrAt 4 cfg0.N := by
  rw [W11_of m ρ c main_v4 (by decide +kernel), W10_of m ρ c main_v4 (by decide +kernel), W9_of m ρ c main_v4 (by decide +kernel), W8_of m ρ c main_v4 (by decide +kernel),
    W7_of m ρ c main_v4 (by decide +kernel), W6_of m ρ c main_v4 (by decide +kernel), W5_of m ρ c main_v4 (by decide +kernel)]
  exact W4_arr m ρ c 4

/-- The hidden value at a column of the fifty-six: the filter's, and one from the fiftieth on. -/
def hid56 (b : Fin 8) (l : Fin 2500) (f : Fin 56) : EReal :=
  if h : f.val < 50 then hid (aX m c) (aE m c) (aC m c) (aD m c) b l ⟨f.val, h⟩ else 1

theorem hid56_val (hz : ∀ e, aE m c 0 e = 0) (b : Fin 8) (l : Fin 2500) (f : Fin 56) : W11 m ρ c (Proc.devRef .tc main_v4) (ix3 b l f) = hid56 m c b l f := by
  rw [hidden_kept]
  unfold hid56
  split
  · rename_i h; exact hidden_val m ρ c hz b l f h
  · rename_i h; exact hidden_one m ρ c b l f (by omega)

/-- The second call's weight is the exponential of the score. -/
theorem wgt_exp (hu : ∀ y f, ∃ r : ℝ, aU m c y f = r) (b : Fin 8) (l : Fin 2500) (y : Fin 8921) :
    wgt (hid56 m c b) (row56 (m ((c : Thread nD τ).loc main_arg5)) y) l = Ideal.exp (score (aX m c) (aE m c) (aC m c) (aD m c) (aU m c) b l y) := by
  unfold wgt
  have e : ∑ f, hid56 m c b l f * row56 (m ((c : Thread nD τ).loc main_arg5)) y f = score (aX m c) (aE m c) (aC m c) (aD m c) (aU m c) b l y := by
    rw [sum_56 _ fun f hf => by rw [row56, dif_neg (by omega), mul_zero]]
    unfold score
    refine Finset.sum_congr rfl fun f _ => ?_
    rw [hid56, row56, dif_pos f.isLt, dif_pos f.isLt]
    rfl
  rw [e]
  obtain ⟨r, hr⟩ := score_real (aX m c) (aE m c) (aC m c) (aD m c) (aU m c) hu b l y
  rw [hr]
  exact exp2_log2e r

/-- What the second call stores for a label. -/
theorem stored1_val (hz : ∀ e, aE m c 0 e = 0) (hu : ∀ y f, ∃ r : ℝ, aU m c y f = r) (t : Fin cfg1.N) (b : Fin 8) (hb : t.val / 9 = b.val) (y : Fin 8921) (hy : t.val % 9 = y.val / 1024) :
    stored1 (readAt (W11 m ρ)) c t (ix4 (0 : Fin 1) (0 : Fin 1) (0 : Fin 1) (⟨y.val % 1024, Nat.mod_lt _ (by decide)⟩ : Fin 1024))
      = ans (aX m c) (aE m c) (aC m c) (aD m c) (aU m c) (aW m c) (aB m c) b y := by
  unfold stored1 attnOut
  have hp : ∀ (r : Fin 120) (off : Fin 2 → ℕ) (o : ℕ) (n : ℕ) (inb) (f : Fin n), off = ![o, 1024 * (t.val % 9)] → o + f.val = r.val →
      iblk1 (readAt (W11 m ρ)) c 1 t ((Rect.unit (s := S120x9216) off ![n, 1024] inb).emb (ix2 f (⟨y.val % 1024, Nat.mod_lt _ (by decide)⟩ : Fin 1024)))
        = (packed (F := Idealize.ShloMosaic.Ideal) (m ((c : Thread nD τ).loc main_arg5)) (m ((c : Thread nD τ).loc main_arg6)) (m ((c : Thread nD τ).loc main_arg7)) (ix2 r (⟨y.val, by omega⟩ : Fin 9216)) : EReal) := by
    intro r off o n inb f ho hr
    subst ho
    refine (packed_block (readAt (W11 m ρ)) c t _).trans ((congrFun (W11_packed m ρ c) _).trans (congrArg _ (funext fun a => Fin.ext ?_)))
    match a with
    | ⟨0, _⟩ => show o + 1 * f.val = r.val; omega
    | ⟨1, _⟩ => show 1024 * (t.val % 9) + 1 * (y.val % 1024) = y.val; omega
  refine (attn_pay _ _ _ _ (hid56 m c b) (row56 (m ((c : Thread nD τ).loc main_arg5)) y) (row56 (m ((c : Thread nD τ).loc main_arg6)) y) (aB m c y) _
    (fun l f => ?_) (fun f => ?_) (fun f => ?_) ?_).trans ?_
  · refine (hidden_block (readAt (W11 m ρ)) c t _).trans (Eq.trans (congrArg _ (funext fun a => Fin.ext ?_)) (hid56_val m ρ c hz b l f))
    match a with
    | ⟨0, _⟩ => show k1_off1 (grid1.coords t) 0 + 1 * 0 = b.val; rw [off1_1 t]; show t.val / 9 + 1 * 0 = b.val; omega
    | ⟨1, _⟩ => show k1_off1 (grid1.coords t) 1 + 1 * l.val = l.val; rw [off1_1 t]; show 0 + 1 * l.val = l.val; omega
    | ⟨2, _⟩ => show k1_off1 (grid1.coords t) 2 + 1 * f.val = f.val; rw [off1_1 t]; show 0 + 1 * f.val = f.val; omega
  · exact (hp ⟨f.val, by omega⟩ _ 0 56 _ f (off1_2 t) (Nat.zero_add _)).trans (packed_scores _ _ _ _ y.isLt f)
  · exact (hp ⟨56 + f.val, by omega⟩ _ 56 56 _ f (off1_3 t) rfl).trans (packed_outs _ _ _ _ y.isLt f)
  · exact (hp 112 _ 112 1 _ (0 : Fin 1) (off1_4 t) rfl).trans (packed_bias _ _ _ _ y.isLt)
  · unfold ans
    simp only [wgt_exp m c hu]
    refine congrArg₂ (· + ·) (congrArg₂ Ideal.div ?_ ?_) rfl
    · rw [sum_56 _ fun f hf => by rw [row56, dif_neg (by omega), zero_mul]]
      refine Finset.sum_congr rfl fun f _ => ?_
      simp only [hid56, row56]
      rw [dif_pos f.isLt]
      simp only [dif_pos f.isLt]
      rfl
    · refine Finset.sum_congr rfl fun l _ => ?_
      rw [hid56, dif_neg (by decide)]

/-- The answers after the run. -/
theorem y_val (hz : ∀ e, aE m c 0 e = 0) (hu : ∀ y f, ∃ r : ℝ, aU m c y f = r) (b : Fin 8) (y : Fin 8921) :
    W13 m ρ c (Proc.devRef .tc main_v17) (ix2 b y) = ans (aX m c) (aE m c) (aC m c) (aD m c) (aU m c) (aW m c) (aB m c) b y := by
  refine (congrFun (W13_y m ρ c) _).trans ?_
  rw [extractStridedSlice_apply _ _ _ _ (ix2 b (⟨y.val, by omega⟩ : Fin 9216)) (fun a => by match a with | ⟨0, _⟩ => exact (Nat.zero_add _).symm | ⟨1, _⟩ => exact (Nat.zero_add _).symm)]
  rw [shapeCast_apply _ _ _ (ix4 b (⟨y.val / 1024, by omega⟩ : Fin 9) (0 : Fin 1) (⟨y.val % 1024, Nat.mod_lt _ (by decide)⟩ : Fin 1024))
    (by rw [Shape.rowMajor_val_four, Shape.rowMajor_val_two]; simp; omega)]
  have e : W12 m ρ c (Proc.devRef .tc main_v15) = (dat1 (readAt (W11 m ρ)) c).arrAt 2 cfg1.N := W12_arr m ρ c 2
  rw [e]
  refine (answers_arr (readAt (W11 m ρ)) c (⟨9 * b.val + y.val / 1024, ?_⟩ : Fin 72) b _ ?_ ?_ _).trans (stored1_val m ρ c hz hu _ b ?_ y ?_)
  · omega
  · show (9 * b.val + y.val / 1024) / 9 = b.val; omega
  · show (9 * b.val + y.val / 1024) % 9 = y.val / 1024; omega
  · show (9 * b.val + y.val / 1024) / 9 = b.val; omega
  · show (9 * b.val + y.val / 1024) % 9 = y.val / 1024; omega

/-- The loss after the run. -/
theorem loss_val (hz : ∀ e, aE m c 0 e = 0) (hu : ∀ y f, ∃ r : ℝ, aU m c y f = r) (i : S_.Idx) :
    W15 m ρ c (Proc.devRef .tc main_v19) i
      = Ideal.div (∑ b, ∑ y, bce (ans (aX m c) (aE m c) (aC m c) (aD m c) (aU m c) (aW m c) (aB m c) b y) (aT m c b y)) (Ideal.ofBits .f32 0x478B6400#32) := by
  refine (congrFun (W15_loss m ρ c) i).trans ?_
  rw [shapeCast_apply _ _ _ (ix2 (0 : Fin 1) (0 : Fin 1)) (by rw [Shape.rowMajor_val_two]; exact (Nat.lt_one_iff.mp (S_.rowMajor i).isLt).symm)]
  have e : W14 m ρ c (Proc.devRef .tc main_v18) = (dat2 (readAt (W13 m ρ)) c).arrAt 2 cfg2.N := W14_arr m ρ c 2
  rw [e, loss_arr (readAt (W13 m ρ)) c (⟨0, by decide⟩ : Fin 1)]
  unfold stored2 lossOut
  refine loss_pay _ _ _ _ (fun b y => ?_) (fun b y => ?_)
  · refine (y_block (readAt (W13 m ρ)) c _ _).trans (Eq.trans (congrArg _ (funext fun a => Fin.ext ?_)) (y_val m ρ c hz hu b y))
    match a with
    | ⟨0, _⟩ => show 0 + 1 * b.val = b.val; omega
    | ⟨1, _⟩ => show 0 + 1 * y.val = y.val; omega
  · refine (t_block (readAt (W13 m ρ)) c _ _).trans (Eq.trans (congrArg _ (funext fun a => Fin.ext ?_)) (congrFun (W13_args m ρ c main_arg1 (by simp [argRefs])) (ix2 b y)))
    match a with
    | ⟨0, _⟩ => show 0 + 1 * b.val = b.val; omega
    | ⟨1, _⟩ => show 0 + 1 * y.val = y.val; omega

end Cert.KernelIdeal.Whole

end
-- ==== Proof.Ref.Hid.lean ====
module

public import proofs.«01_k».proof.Proof.Gen.ReferenceIdeal.Run
public import proofs.«01_k».proof.Proof.Math.Dot
public import proofs.«01_k».proof.Proof.Math.Model
public import proofs.«01_k».proof.Proof.Math.Softmax
public import Idealize.ShloMosaic.Lib.ValueIdx
public import Idealize.ShloMosaic.Lib.IdealHost
public import Idealize.ShloMosaic.PureOps.Ideal.Laws
public import Idealize.ShloMosaic.Lib.KernelVsHost
public import Idealize.ShloMosaic.Lib.Pointwise
public import Idealize.ShloMosaic.Lib.Pipeline.Value

@[expose] public section

set_option maxRecDepth 16384

noncomputable section

/-! # The reference's hidden values at an index -/

namespace Cert.ReferenceIdeal.Whole

open Cert.ReferenceIdeal Cert.ReferenceIdeal.Gen Cert.ReferenceIdeal.Value
open Idealize.ShloMosaic Idealize.ShloMosaic.TcCoe
open Idealize.ShloMosaic.ValueIdx (addf_apply)
open Cert.Model

variable (V : Valuation τ sig (Elt Idealize.ShloMosaic.Ideal))

/-! ## The arguments by their coordinates -/

def rX (b : Fin 8) (l : Fin 2500) : BitVec 32 := V (Proc.devRef .tc main_arg0) (ix2 b l)
def rT (b : Fin 8) (y : Fin 8921) : EReal := V (Proc.devRef .tc main_arg1) (ix2 b y)
def rE (r : Fin 50000) (e : Fin 100) : EReal := V (Proc.devRef .tc main_arg2) (ix2 r e)
def rC (f : Fin 50) (e : Fin 100) (k : Fin 9) : EReal := V (Proc.devRef .tc main_arg3) (ix3 f e k)
def rD (f : Fin 50) : EReal := V (Proc.devRef .tc main_arg4) (ix1 f)
def rU (y : Fin 8921) (f : Fin 50) : EReal := V (Proc.devRef .tc main_arg5) (ix2 y f)
def rW (y : Fin 8921) (f : Fin 50) : EReal := V (Proc.devRef .tc main_arg6) (ix2 y f)
def rB (y : Fin 8921) : EReal := V (Proc.devRef .tc main_arg7) (ix1 y)

/-- The lookup at an index: the row whose number the words hold there, clamped into the table. -/
theorem take_row (x : S50000x100.Idx → EReal) (idx : IVec S8x2500x1 32) (b : Fin 8) (l : Fin 2500) (e : Fin 100) :
    Host.gather gather_S50000x100_S8x2500x1_S8x2500x100_2_0_n_n_0_2_1100 x idx (ix3 b l e)
      = x (ix2 (⟨min (idx (ix3 b l (0 : Fin 1))).toInt.toNat 49999, by omega⟩ : Fin 50000) e) := by
  unfold Host.gather
  refine congrArg x (funext fun a => Fin.ext ?_)
  match a with
  | ⟨0, _⟩ =>
    show GatherDims.start _ (ix3 b l e) idx 0 + GatherDims.batchCoord _ (ix3 b l e) 0 + GatherDims.offCoord _ (ix3 b l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x100_S8x2500x1_S8x2500x100_2_0_n_n_0_2_1100.startIndexMap from List.mem_singleton.mpr rfl)]
    have hsi : gather_S50000x100_S8x2500x1_S8x2500x100_2_0_n_n_0_2_1100.siIdx (ix3 b l e)
        ⟨List.idxOf (0 : Fin 2) gather_S50000x100_S8x2500x1_S8x2500x100_2_0_n_n_0_2_1100.startIndexMap, List.idxOf_lt_length_iff.2 (List.mem_singleton.mpr rfl)⟩
          = ix3 b l (0 : Fin 1) := by
      funext q; refine Fin.ext ?_
      match q with
      | ⟨0, _⟩ => rfl
      | ⟨1, _⟩ => rfl
      | ⟨2, _⟩ => rfl
    rw [hsi]
    rfl
  | ⟨1, _⟩ =>
    show GatherDims.start _ (ix3 b l e) idx 1 + GatherDims.batchCoord _ (ix3 b l e) 1 + GatherDims.offCoord _ (ix3 b l e) 1 = _
    rw [GatherDims.batchCoord_eq_zero _ _ _ List.not_mem_nil]
    unfold GatherDims.start
    rw [dif_neg (show (1 : Fin 2) ∉ gather_S50000x100_S8x2500x1_S8x2500x100_2_0_n_n_0_2_1100.startIndexMap from by decide)]
    simp only [Nat.zero_add, Nat.add_zero]
    rfl

/-- A word that is a row number of the table is not negative: the reference looks up the row itself. -/
theorem word_kept (w : BitVec 32) (h : w.toNat < 50000) : Scalar.cmpi .slt w 0#32 = 0#1 ∧ min w.toInt.toNat 49999 = w.toNat % 50000 := by
  have e : w.toInt = w.toNat := BitVec.toInt_eq_toNat_of_lt (by omega)
  constructor
  · show BitVec.ofBool (w.slt 0#32) = 0#1
    have : w.slt 0#32 = false := by
      rw [BitVec.slt, e]; simp
    rw [this]; rfl
  · rw [e, Int.toNat_natCast, Nat.mod_eq_of_lt h]; omega

/-- The padded lookup. -/
theorem v7_val (hx : ∀ b l, (rX V b l).toNat < 50000) (b : Fin 8) (p : Fin 2508) (e : Fin 100) :
    res_main_v7 V (ix3 b p e) = emb (rX V) (rE V) b p.val e := by
  unfold res_main_v7 emb
  split
  · rename_i h
    refine (pad_apply_of_inside _ _ _ _ _ _ _ _ (ix3 b (⟨p.val - 4, by omega⟩ : Fin 2500) e) (fun a => by
      match a with
      | ⟨0, _⟩ => show b.val = 0 + b.val * 1; omega
      | ⟨1, _⟩ => show p.val = 4 + (p.val - 4) * 1; omega
      | ⟨2, _⟩ => show e.val = 0 + e.val * 1; omega)).trans ?_
    rw [take_row]
    obtain ⟨h1, h2⟩ := word_kept (rX V b ⟨p.val - 4, by omega⟩) (hx _ _)
    refine congrArg (fun r => V (Proc.devRef .tc main_arg2) (ix2 r e)) (Fin.ext ?_)
    refine Eq.trans ?_ h2
    refine congrArg (fun w : BitVec 32 => min w.toInt.toNat 49999) ?_
    rw [broadcastInDim_apply _ _ _ _ (ix2 b (⟨p.val - 4, by omega⟩ : Fin 2500)) (fun a => by match a with | ⟨0, _⟩ => rfl | ⟨1, _⟩ => rfl)]
    show Scalar.select (Scalar.cmpi .slt (rX V b ⟨p.val - 4, by omega⟩) 0#32) _ (rX V b ⟨p.val - 4, by omega⟩) = _
    rw [h1]
    rfl
  · rename_i h
    refine (pad_apply_of_not_inside _ _ _ _ _ _ _ _ (1 : Fin 3) (by
      show ¬(4 ≤ p.val ∧ (p.val - 4) % 1 = 0 ∧ (p.val - 4) / 1 < 2500); omega)).trans ?_
    show ((((0#32 : BitVec 32).toInt : ℝ)) : EReal) = 0
    simp

/-- One tap: the looked-up rows from place `k` on against the tap's weights. -/
theorem tap_sum (hx : ∀ b l, (rX V b l).toNat < 50000) (k : Fin 9) (hs hw hc) (b : Fin 8) (l : Fin 2500) (f : Fin 50) :
    Host.dotGeneral (F := Idealize.ShloMosaic.Ideal) (φ₁ := .f32) (φ₂ := .f32) dot_S8x2500x100_S50x100_S8x2500x50_2_1_01_0_n_n none (extractStridedSlice S8x2500x100 ![0, k.val, 0] (res_main_v7 V) hs)
      (shapeCast (α := Idealize.ShloMosaic.Ideal .f32) S50x100 (extractStridedSlice S50x100x1 ![0, 0, k.val] (V (Proc.devRef .tc main_arg3)) hw) hc) (ix3 b l f)
      = tapSum (rX V) (rE V) (rC V) b l f k := by
  simp only [Host.dotGeneral]
  refine (Ideal.dotGeneral_apply _ _ _ _ _ _).trans ?_
  rw [sum_contr dot_S8x2500x100_S50x100_S8x2500x50_2_1_01_0_n_n 100 rfl rfl _ _ _ (fun e => ix3 b l e) (fun e => ix2 f e)
    (fun e => by funext a; match a with | ⟨0, _⟩ => rfl | ⟨1, _⟩ => rfl | ⟨2, _⟩ => rfl)
    (fun e => by funext a; match a with | ⟨0, _⟩ => rfl | ⟨1, _⟩ => rfl)]
  unfold tapSum
  refine Finset.sum_congr rfl fun e _ => congrArg₂ (· * ·) ?_ ?_
  · rw [extractStridedSlice_apply _ _ _ _ (ix3 b (⟨l.val + k.val, by omega⟩ : Fin 2508) e) (fun a => by
      match a with
      | ⟨0, _⟩ => exact (Nat.zero_add _).symm
      | ⟨1, _⟩ => exact Nat.add_comm _ _
      | ⟨2, _⟩ => exact (Nat.zero_add _).symm)]
    exact v7_val V hx b _ e
  · rw [shapeCast_apply _ _ _ (ix3 f e (0 : Fin 1)) (by rw [Shape.rowMajor_val_three, Shape.rowMajor_val_two]; simp)]
    exact extractStridedSlice_apply _ _ _ _ (ix3 f e k) (fun a => by
      match a with
      | ⟨0, _⟩ => exact (Nat.zero_add _).symm
      | ⟨1, _⟩ => exact (Nat.zero_add _).symm
      | ⟨2, _⟩ => rfl)

/-- The hidden values. -/
theorem v57_val (hx : ∀ b l, (rX V b l).toNat < 50000) (b : Fin 8) (l : Fin 2500) (f : Fin 50) :
    res_main_v57 V (ix3 b l f) = hid (rX V) (rE V) (rC V) (rD V) b l f := by
  unfold res_main_v57 hid
  refine congrArg Ideal.tanh (congrArg₂ (· + ·) ?_ ?_)
  · simp only [addf_apply]
    unfold nine
    refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
    · refine (congrArg₂ (· + ·) Ideal.ofBits_zero_f32 (tap_sum V hx 0 _ _ _ b l f)).trans (zero_add _)
    · exact tap_sum V hx 1 _ _ _ b l f
    · exact tap_sum V hx 2 _ _ _ b l f
    · exact tap_sum V hx 3 _ _ _ b l f
    · exact tap_sum V hx 4 _ _ _ b l f
    · exact tap_sum V hx 5 _ _ _ b l f
    · exact tap_sum V hx 6 _ _ _ b l f
    · exact tap_sum V hx 7 _ _ _ b l f
    · exact tap_sum V hx 8 _ _ _ b l f
  · rw [broadcastInDim_apply _ _ _ _ (ix3 (0 : Fin 1) (0 : Fin 1) f) (fun a => by match a with | ⟨0, _⟩ => rfl | ⟨1, _⟩ => rfl | ⟨2, _⟩ => rfl)]
    rw [broadcastInDim_apply _ _ _ _ (ix1 f) (fun a => by match a with | ⟨0, _⟩ => rfl)]
    rfl

end Cert.ReferenceIdeal.Whole

end
-- ==== Proof.Ref.Ans.lean ====
module

public import proofs.«01_k».proof.Proof.Gen.ReferenceIdeal.Run
public import proofs.«01_k».proof.Proof.Ref.Hid
public import proofs.«01_k».proof.Proof.Math.Dot
public import proofs.«01_k».proof.Proof.Math.Model
public import proofs.«01_k».proof.Proof.Math.Softmax
public import Idealize.ShloMosaic.Lib.ValueIdx
public import Idealize.ShloMosaic.Lib.IdealHost
public import Idealize.ShloMosaic.PureOps.Ideal.Laws
public import Idealize.ShloMosaic.Lib.KernelVsHost
public import Idealize.ShloMosaic.Lib.Pointwise
public import Idealize.ShloMosaic.Lib.Pipeline.Value

@[expose] public section

set_option maxRecDepth 16384

noncomputable section

/-! # The reference's answers and loss -/

namespace Cert.ReferenceIdeal.Whole

open Cert.ReferenceIdeal Cert.ReferenceIdeal.Gen Cert.ReferenceIdeal.Value
open Idealize.ShloMosaic Idealize.ShloMosaic.TcCoe
open Cert.Model

variable (V : Valuation τ sig (Elt Idealize.ShloMosaic.Ideal))

/-- The scores. -/
theorem v59_val (hx : ∀ b l, (rX V b l).toNat < 50000) (b : Fin 8) (y : Fin 8921) (l : Fin 2500) :
    res_main_v59 V (ix3 b y l) = score (rX V) (rE V) (rC V) (rD V) (rU V) b l y := by
  unfold res_main_v59
  rw [transpose_apply _ _ _ _ (ix3 b l y) (fun a => by match a with | ⟨0, _⟩ => rfl | ⟨1, _⟩ => rfl | ⟨2, _⟩ => rfl)]
  simp only [Host.dotGeneral]
  refine (Ideal.dotGeneral_apply _ _ _ _ _ _).trans ?_
  rw [sum_contr dot_S8x2500x50_S8921x50_S8x2500x8921_2_1_01_0_n_n 50 rfl rfl _ _ _ (fun f => ix3 b l f) (fun f => ix2 y f)
    (fun e => by funext a; match a with | ⟨0, _⟩ => rfl | ⟨1, _⟩ => rfl | ⟨2, _⟩ => rfl)
    (fun e => by funext a; match a with | ⟨0, _⟩ => rfl | ⟨1, _⟩ => rfl)]
  unfold score
  exact Finset.sum_congr rfl fun f _ => congrArg₂ (· * ·) (v57_val V hx b l f) rfl

/-- From −∞ the host's reduce with a maximum body over the last axis is the fold of the maximum along it. -/
theorem rowmax {p q n : ℕ} (x : FVec Idealize.ShloMosaic.Ideal ⟨3, ![p, q, n]⟩ .f32) (h' : (⟨3, ![p, q, n]⟩ : Shape).ReducesTo [2] (⟨2, ![p, q]⟩ : Shape))
    (h : (⟨3, ![p, q, n]⟩ : Shape).Reduces [2] (⟨2, ![p, q]⟩ : Shape)) (hu : 0 < S_.numel) (b : Fin p) (y : Fin q) (g : Fin n → EReal) (hg : ∀ l, x (ix3 b y l) = g l) :
    Host.reduce FloatOps.maximumf x (constant S_ .f32 0xFF800000#32) h' hu (ix2 b y) = (Finset.univ : Finset (Fin n)).fold max (⊥ : EReal) g := by
  rw [Host.reduce_eq_fold_single FloatOps.maximumf x _ h' h hu]
  have hb : Ideal.ofBits .f32 0xFF800000#32 = ⊥ := by simp [Ideal.ofBits, Ideal.ieee]
  have hf : (x ∘ h.lift (ix2 b y)) = g := funext fun k => by
    refine Eq.trans (congrArg x (funext fun a => Fin.ext ?_)) (hg k)
    match a with
    | ⟨0, _⟩ => rfl
    | ⟨1, _⟩ => rfl
    | ⟨2, _⟩ => rfl
  refine Eq.trans ?_ (congrArg (fun i => Finset.fold max i g (Finset.univ : Finset (Fin n))) hb)
  exact congrArg (fun f => Finset.fold max (Ideal.ofBits .f32 0xFF800000#32) f (Finset.univ : Finset (Fin n))) hf

/-- A maximum at an index. -/
theorem maximumf_at {s : Shape} (A B : FVec Idealize.ShloMosaic.Ideal s .f32) (i : s.Idx) : maximumf A B i = max (A i : EReal) (B i) := rfl

/-- The −∞ the maximum starts from. -/
theorem neginf_at (i : S8x8921.Idx) : broadcastInDim S8x8921 ![] bcast_S_S8x8921 (constant (F := Idealize.ShloMosaic.Ideal) S_ .f32 0xFF800000#32) i = (⊥ : EReal) := by
  show Ideal.ofBits .f32 0xFF800000#32 = ⊥
  simp [Ideal.ofBits, Ideal.ieee]

/-- The weights, before they are normalized: the exponentials of the scores less a real. -/
theorem v66_val (hx : ∀ b l, (rX V b l).toNat < 50000) (hu : ∀ y f, ∃ r : ℝ, rU V y f = r) (b : Fin 8) (y : Fin 8921) :
    ∃ M : EReal, (∃ r : ℝ, M = r) ∧ ∀ l, res_main_v66 V (ix3 b y l) = Ideal.exp (score (rX V) (rE V) (rC V) (rD V) (rU V) b l y - M) := by
  refine ⟨(Finset.univ : Finset (Fin 2500)).fold max ⊥ fun l => score (rX V) (rE V) (rC V) (rD V) (rU V) b l y, ?_, fun l => ?_⟩
  · exact Softmax.real_fold (by decide) _ fun l => score_real _ _ _ _ _ hu b l y
  · unfold res_main_v66
    refine congrArg Ideal.exp (congrArg₂ (· - ·) (v59_val V hx b y l) ?_)
    rw [broadcastInDim_apply _ _ _ _ (ix3 b y (0 : Fin 1)) (fun a => by match a with | ⟨0, _⟩ => rfl | ⟨1, _⟩ => rfl | ⟨2, _⟩ => rfl)]
    rw [broadcastInDim_apply _ _ _ _ (ix2 b y) (fun a => by match a with | ⟨0, _⟩ => rfl | ⟨1, _⟩ => rfl)]
    rw [maximumf_at, neginf_at, max_eq_right bot_le]
    exact rowmax (p := 8) (q := 8921) (n := 2500) _ reducesTo_S8x8921x2500_S8x8921_d2 (by decide) h_S_ b y _ (v59_val V hx b y)

/-- The answers. -/
theorem v76_val (hx : ∀ b l, (rX V b l).toNat < 50000) (hu : ∀ y f, ∃ r : ℝ, rU V y f = r) (b : Fin 8) (y : Fin 8921) :
    res_main_v76 V (ix2 b y) = ans (rX V) (rE V) (rC V) (rD V) (rU V) (rW V) (rB V) b y := by
  obtain ⟨M, hM, h66⟩ := v66_val V hx hu b y
  unfold res_main_v76 ans
  refine congrArg₂ (· + ·) ?_ ?_
  · rw [transpose_apply _ _ _ _ (ix2 y b) (fun a => by match a with | ⟨0, _⟩ => rfl | ⟨1, _⟩ => rfl)]
    refine Eq.trans ?_ (Softmax.softmax_mean (by decide) (fun l f => hid (rX V) (rE V) (rC V) (rD V) b l f) (fun l => score (rX V) (rE V) (rC V) (rD V) (rU V) b l y)
      (rW V y) M (fun l f => hid_real _ _ _ _ b l f) (fun l => score_real _ _ _ _ _ hu b l y) hM)
    simp only [Host.dotGeneral]
    refine (Ideal.dotGeneral_apply _ _ _ _ _ _).trans ?_
    rw [sum_contr dot_S8x8921x50_S8921x50_S8921x8_2_1_0_n_1_0 50 rfl rfl _ _ _ (fun f => ix3 b y f) (fun f => ix2 y f)
      (fun e => by funext a; match a with | ⟨0, _⟩ => rfl | ⟨1, _⟩ => rfl | ⟨2, _⟩ => rfl)
      (fun e => by funext a; match a with | ⟨0, _⟩ => rfl | ⟨1, _⟩ => rfl)]
    refine Finset.sum_congr rfl fun f _ => congrArg₂ (· * ·) ?_ rfl
    refine (Ideal.dotGeneral_apply _ _ _ _ _ _).trans ?_
    rw [sum_contr dot_S8x8921x2500_S8x2500x50_S8x8921x50_2_1_1_2_0_0 2500 rfl rfl _ _ _ (fun l => ix3 b y l) (fun l => ix3 b l f)
      (fun e => by funext a; match a with | ⟨0, _⟩ => rfl | ⟨1, _⟩ => rfl | ⟨2, _⟩ => rfl)
      (fun e => by funext a; match a with | ⟨0, _⟩ => rfl | ⟨1, _⟩ => rfl | ⟨2, _⟩ => rfl)]
    refine Finset.sum_congr rfl fun l _ => congrArg₂ (· * ·) (congrArg₂ Ideal.div (h66 l) ?_) (v57_val V hx b l f)
    rw [broadcastInDim_apply _ _ _ _ (ix3 b y (0 : Fin 1)) (fun a => by match a with | ⟨0, _⟩ => rfl | ⟨1, _⟩ => rfl | ⟨2, _⟩ => rfl)]
    rw [broadcastInDim_apply _ _ _ _ (ix2 b y) (fun a => by match a with | ⟨0, _⟩ => rfl | ⟨1, _⟩ => rfl)]
    refine (Ideal.hostReduceAdd_single _ (by decide : S8x8921x2500.Reduces [2] S8x8921) _ _ _).trans ?_
    refine (congrArg₂ (· + ·) Ideal.ofBits_zero_f32 (Finset.sum_congr rfl fun k _ => ?_)).trans (zero_add _)
    refine Eq.trans (congrArg (res_main_v66 V) (funext fun a => Fin.ext ?_)) (h66 k)
    match a with
    | ⟨0, _⟩ => rfl
    | ⟨1, _⟩ => rfl
    | ⟨2, _⟩ => rfl
  · rw [broadcastInDim_apply _ _ _ _ (ix2 (0 : Fin 1) y) (fun a => by match a with | ⟨0, _⟩ => rfl | ⟨1, _⟩ => rfl)]
    rw [broadcastInDim_apply _ _ _ _ (ix1 y) (fun a => by match a with | ⟨0, _⟩ => rfl)]
    rfl

/-- The reference's loss of an array of answers. -/
def refLoss (A T : FVec Idealize.ShloMosaic.Ideal S8x8921 .f32) : FVec Idealize.ShloMosaic.Ideal S_ .f32 :=
  Host.divf (Host.reduceAdd (addf (subf (maximumf A (broadcastInDim S8x8921 ![] bcast_S_S8x8921 (constant S_ .f32 0x00000000#32))) (mulf A T))
    (Host.log1p (Host.exp (Host.negf (Host.absf A))))) (constant S_ .f32 0x00000000#32) reducesTo_S8x8921_S_d0_1 h_S_) (constant S_ .f32 0x478B6400#32)

/-- That loss: the losses' sum divided by their number. -/
theorem refLoss_val (A T : FVec Idealize.ShloMosaic.Ideal S8x8921 .f32) (Y Z : Fin 8 → Fin 8921 → EReal) (hA : ∀ b y, A (ix2 b y) = Y b y)
    (hT : ∀ b y, T (ix2 b y) = Z b y) (i : S_.Idx) : refLoss A T i = Ideal.div (∑ b, ∑ y, bce (Y b y) (Z b y)) (Ideal.ofBits .f32 0x478B6400#32) := by
  unfold refLoss
  refine congrArg₂ Ideal.div ?_ rfl
  refine (Ideal.hostReduceAdd_total _ (fun a => a.elim0) _ _ _).trans ?_
  refine (congrArg₂ (· + ·) Ideal.ofBits_zero_f32 (sum_idx2 _)).trans ((zero_add _).trans ?_)
  refine Finset.sum_congr rfl fun b _ => Finset.sum_congr rfl fun y _ => ?_
  unfold bce
  rw [← hA b y, ← hT b y]
  exact congrArg₂ (· + ·) (congrArg₂ (· - ·) (congrArg₂ max rfl Ideal.ofBits_zero_f32) rfl) rfl

end Cert.ReferenceIdeal.Whole

end
-- ==== Proof.Math.Bits.lean ====
module

public import Idealize.ShloMosaic.PureOps
public import Idealize.ShloMosaic.Lib.Pointwise
public import Idealize.ShloMosaic.Lib.WordCmp
public import Idealize.ShloMosaic.Lib.KernelVsHost

@[expose] public section

noncomputable section

/-! # Conjunctions of bits, and words in a range -/

namespace Cert.PreFacts

open Idealize.ShloMosaic

/-- The shape of a scalar. -/
abbrev S_ : Shape := ⟨0, ![]⟩

/-- A truth value written as a bit is one exactly when true. -/
theorem ofBool_one (b : Bool) : BitVec.ofBool b = 1#1 ↔ b = true := by cases b <;> decide

/-- A fold of conjunctions of bits that comes out one started from one and met ones only. -/
theorem foldl_and {α : Type} (f : α → BitVec 1) :
    ∀ (l : List α) (b : BitVec 1), l.foldl (fun r i => IntOp.andi r (f i)) b = 1#1 → b = 1#1 ∧ ∀ i ∈ l, f i = 1#1
  | [], _, h => ⟨h, by simp⟩
  | a :: l, b, h => by
    obtain ⟨h1, h2⟩ := foldl_and f l _ h
    have key : ∀ x y : BitVec 1, x &&& y = 1#1 → x = 1#1 ∧ y = 1#1 := by decide
    obtain ⟨h3, h4⟩ := key _ _ h1
    exact ⟨h3, by simp only [List.mem_cons, forall_eq_or_imp]; exact ⟨h4, h2⟩⟩

/-- The one index of a rank-zero shape. -/
theorem idx0 (i j : S_.Idx) : i = j := funext fun a => a.elim0

/-- The conjunction of all elements is one only if each element is one. -/
theorem all_of_reduce {s : Shape} {dims : List (Fin s.rank)} (x : IVec s 1) (init : IVec S_ 1) (h : s.ReducesTo dims S_) (hu : 0 < S_.numel) (j : S_.Idx)
    (e : Host.reduce IntOp.andi x init h hu j = 1#1) (i : s.Idx) : x i = 1#1 := by
  rw [Host.reduce_eq_foldl] at e
  refine (foldl_and x _ _ e).2 i ?_
  simp only [List.mem_filter, List.mem_map, List.mem_finRange, true_and, decide_eq_true_eq]
  exact ⟨⟨s.rowMajor i, by simp⟩, idx0 _ _⟩

theorem and_parts {x y : IVec S_ 1} {j : S_.Idx} (h : andi x y j = 1#1) : x j = 1#1 ∧ y j = 1#1 := by
  have key : ∀ x y : BitVec 1, x &&& y = 1#1 → x = 1#1 ∧ y = 1#1 := by decide
  exact key _ _ h

/-- A word that compares at least nought and below 50000 is a number below 50000. -/
theorem word_range (v : BitVec 32) (a : IntOp.cmpi .sge v 0#32 = 1#1) (b : IntOp.cmpi .slt v 50000#32 = 1#1) : v.toNat < 50000 := by
  simp only [IntOp.cmpi, ofBool_one, BitVec.sle_eq_decide, BitVec.slt_eq_decide, decide_eq_true_eq, BitVec.toInt_eq_toNat_cond, BitVec.toNat_ofNat] at a b
  omega

end Cert.PreFacts

end
-- ==== Proof.Math.InRange.lean ====
module

public import proofs.«01_k».proof.Defs
public import proofs.«01_k».proof.Proof.Gen.Pre_in_range
public import proofs.«01_k».proof.Proof.Math.Bits

@[expose] public section

noncomputable section

/-! # What `in_range` says of the input words -/

namespace Cert.PreFacts

open Idealize.ShloMosaic Cert.Pre_in_range

variable {F : FTy → Type} [FloatOps F]

/-- Every input word is below 50000. -/
theorem words {x : IVec S8x2500 32} {t : FVec F S8x8921 .f32} {we : FVec F S50000x100 .f32} {cw : FVec F S50x100x9 .f32} {cb : FVec F S50 .f32}
    {u fw : FVec F S8921x50 .f32} {fb : FVec F S8921 .f32} (h : Pre_in_range.fn x t we cw cb u fw fb = fun _ => 1#1) (i : S8x2500.Idx) :
    (x i).toNat < 50000 := by
  have e := congrFun h (fun a => a.elim0)
  unfold Pre_in_range.fn at e
  obtain ⟨e1, e2⟩ := and_parts e
  exact word_range _ (all_of_reduce _ _ _ _ _ e1 i) (all_of_reduce _ _ _ _ _ e2 i)

end Cert.PreFacts

end
-- ==== Proof.Math.Pre.lean ====
module

public import proofs.«01_k».proof.Defs
public import proofs.«01_k».proof.Proof.Gen.Pre_pre
public import proofs.«01_k».proof.Proof.Math.Bits

@[expose] public section

noncomputable section

/-! # What the precondition says of the arguments, element by element -/

namespace Cert.PreFacts

open Idealize.ShloMosaic Cert.Pre_pre

variable {F : FTy → Type} [FloatOps F]

/-- The precondition, as conditions of single elements. -/
theorem parts {x : IVec S8x2500 32} {t : FVec F S8x8921 .f32} {we : FVec F S50000x100 .f32} {cw : FVec F S50x100x9 .f32} {cb : FVec F S50 .f32}
    {u fw : FVec F S8921x50 .f32} {fb : FVec F S8921 .f32} (h : Pre_pre.fn x t we cw cb u fw fb = fun _ => 1#1) :
    (∀ i, (x i).toNat < 50000)
    ∧ (∀ k : Fin 100, FloatOps.cmpf .oeq (we (ix2 0 k)) (FloatOps.ofBits .f32 0x00000000#32) = 1#1)
    ∧ (∀ i, FloatOps.cmpf .olt (FloatOps.hostAbsf (u i)) (FloatOps.ofBits .f32 0x7F800000#32) = 1#1) := by
  have e := congrFun h (fun a => a.elim0)
  unfold Pre_pre.fn Pre_pre.fn_part1 at e
  obtain ⟨e1, e4⟩ := and_parts e
  obtain ⟨e1, e3⟩ := and_parts e1
  obtain ⟨e1, e2⟩ := and_parts e1
  refine ⟨fun i => ?_, fun k => ?_, fun i => ?_⟩
  · exact word_range _ (all_of_reduce _ _ _ _ _ e1 i) (all_of_reduce _ _ _ _ _ e2 i)
  · have a := all_of_reduce _ _ _ _ _ e3 (ix1 k)
    have : shapeCast S100 (extractStridedSlice S1x100 ![0, 0] we Facts.slices_S50000x100_S1x100_0_0) Facts.shapeCasts_S1x100_S100 (ix1 k) = we (ix2 0 k) := by
      refine (shapeCast_apply _ _ (ix1 k) (ix2 0 k) (by rw [Shape.rowMajor_val_one, Shape.rowMajor_val_two]; simp)).trans (extractStridedSlice_apply _ _ _ _ (ix2 0 k) ?_)
      intro a; fin_cases a <;> simp
    rw [← this]; exact a
  · exact all_of_reduce _ _ _ _ _ e4 i

/-- An extended real that compares equal to zero is zero. -/
theorem zero_of_cmp {x : EReal} (h : FloatOps.cmpf (F := Idealize.ShloMosaic.Ideal) (φ := .f32) .oeq x (FloatOps.ofBits .f32 0x00000000#32) = 1#1) : x = 0 := by
  have e : BitVec.ofBool (decide (x = Ideal.ofBits .f32 0x00000000#32)) = 1#1 := h
  have hz : Ideal.ofBits .f32 0x00000000#32 = 0 := by simp [Ideal.ofBits, Ideal.ieee]
  rw [hz] at e
  by_contra hx
  rw [decide_eq_false hx] at e
  exact absurd e (by decide)

/-- An extended real whose magnitude compares below infinity is a real. -/
theorem real_of_cmp {x : EReal} (h : FloatOps.cmpf (F := Idealize.ShloMosaic.Ideal) (φ := .f32) .olt (FloatOps.hostAbsf (F := Idealize.ShloMosaic.Ideal) (φ := .f32) x) (FloatOps.ofBits .f32 0x7F800000#32) = 1#1) :
    ∃ r : ℝ, x = r := by
  have e : BitVec.ofBool (decide (max x (-x) < Ideal.ofBits .f32 0x7F800000#32)) = 1#1 := h
  have hz : Ideal.ofBits .f32 0x7F800000#32 = ⊤ := by simp [Ideal.ofBits, Ideal.ieee]
  rw [hz] at e
  have hx : max x (-x) < ⊤ := by
    by_contra hx
    rw [decide_eq_false hx] at e
    exact absurd e (by decide)
  induction x using EReal.rec with
  | bot => simp at hx
  | coe r => exact ⟨r, rfl⟩
  | top => simp at hx

end Cert.PreFacts
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Word.Frame
public import proofs.«01_k».proof.Proof.Ideal.Frame
public import proofs.«01_k».proof.Proof.Ideal.YVal
public import proofs.«01_k».proof.Proof.Ref.Ans
public import proofs.«01_k».proof.Proof.Math.InRange
public import proofs.«01_k».proof.Proof.Math.Pre
public import proofs.«01_k».proof.Proof.Gen.Pre_in_range
public import proofs.«01_k».proof.Proof.Gen.Pre_pre
public import Idealize.ShloMosaic.Adequacy
public import Idealize.ShloMosaic.Init

@[expose] public section

noncomputable section

/-! # The claims, from the runs of the three programs -/

namespace Cert.Proof

open Idealize.ShloMosaic Idealize.SL.Sem

attribute [local instance] Cert.Kernel.Gen.facts Cert.KernelIdeal.Gen.facts Cert.ReferenceIdeal.Gen.facts Cert.Pre_in_range.Gen.facts Cert.Pre_pre.Gen.facts

/-- The kernel runs, leaves its arguments alone and its semaphores at zero. -/
theorem frame_kernel : Cert.quiescent_Kernel := fun m g hpre =>
  θ_run_mono (Cert.Kernel.Whole.run_words m g fun c i => Cert.PreFacts.words (hpre c) i)
    fun _ h => ⟨fun c => Cert.Kernel.Whole.args_end m g h.1 c, h.2⟩

/-- So does the kernel over the reals. -/
theorem frame_ideal : Cert.quiescent_KernelIdeal := fun m g hpre =>
  θ_run_mono (Cert.KernelIdeal.Whole.run_words m g fun c i => Cert.PreFacts.words (hpre c) i)
    fun _ h => ⟨fun c => Cert.KernelIdeal.Whole.args_end m g h.1 c, h.2⟩

/-- The reference too; it has no semaphore at all. -/
theorem frame_reference : Cert.quiescent_ReferenceIdeal := fun m g _ =>
  θ_run_mono (Cert.ReferenceIdeal.Value.run m g)
    fun r h => ⟨fun c => (h c).2.2, Idealize.ShloMosaic.sem_eq_zero_of_no_sems (by decide) r.2⟩

/-- The kernel over the reals under the stronger precondition. -/
theorem frame_ideal_pre : Cert.quiescent_KernelIdeal_pre_pre := fun m g hpre =>
  θ_run_mono (Cert.KernelIdeal.Whole.run_words m g fun c i => (Cert.PreFacts.parts (hpre c)).1 i)
    fun _ h => ⟨fun c => Cert.KernelIdeal.Whole.args_end m g h.1 c, h.2⟩

open Cert.KernelIdeal.Whole (aX aT aE aC aD aU aW aB) in
/-- Over the reals the kernel leaves the reference's answers and the reference's loss. -/
theorem same_results : Cert.algebraic_KernelIdeal_ReferenceIdeal_pre_pre := by
  intro m g m' g' hpre hm
  have hx : ∀ c : Dev Cert.KernelIdeal.nD, ∀ b l, (aX m c b l).toNat < 50000 := fun c b l => (Cert.PreFacts.parts (hpre c)).1 _
  have hz : ∀ c : Dev Cert.KernelIdeal.nD, ∀ e, aE m c 0 e = 0 := fun c e => Cert.PreFacts.zero_of_cmp ((Cert.PreFacts.parts (hpre c)).2.1 e)
  have hu : ∀ c : Dev Cert.KernelIdeal.nD, ∀ y f, ∃ r : ℝ, aU m c y f = r := fun c y f => Cert.PreFacts.real_of_cmp ((Cert.PreFacts.parts (hpre c)).2.2 _)
  refine ⟨fun c => Cert.KernelIdeal.Whole.W15 m g c (Proc.devRef .tc Cert.KernelIdeal.main_v17), fun c => Cert.KernelIdeal.Whole.W15 m g c (Proc.devRef .tc Cert.KernelIdeal.main_v19), ?_, ?_⟩
  · exact θ_run_mono (Cert.KernelIdeal.Whole.run_words m g fun c i => (Cert.PreFacts.parts (hpre c)).1 i)
      fun _ h c => ⟨h.1 c _ (by decide +kernel), h.1 c _ (by decide +kernel), Cert.KernelIdeal.Whole.args_end m g h.1 c⟩
  · refine θ_run_mono (Cert.ReferenceIdeal.Value.run m' g') fun r h c => ?_
    obtain ⟨m0, m1, m2, m3, m4, m5, m6, m7⟩ := hm c
    have e0 : Cert.ReferenceIdeal.Whole.rX (StableHlo.launchContents m' c) = aX m c := funext fun b => funext fun l => congrFun m0 (ix2 b l)
    have e2 : Cert.ReferenceIdeal.Whole.rE (StableHlo.launchContents m' c) = aE m c := funext fun b => funext fun l => congrFun m2 (ix2 b l)
    have e3 : Cert.ReferenceIdeal.Whole.rC (StableHlo.launchContents m' c) = aC m c := funext fun f => funext fun e => funext fun k => congrFun m3 (ix3 f e k)
    have e4 : Cert.ReferenceIdeal.Whole.rD (StableHlo.launchContents m' c) = aD m c := funext fun f => congrFun m4 (ix1 f)
    have e5 : Cert.ReferenceIdeal.Whole.rU (StableHlo.launchContents m' c) = aU m c := funext fun b => funext fun l => congrFun m5 (ix2 b l)
    have e6 : Cert.ReferenceIdeal.Whole.rW (StableHlo.launchContents m' c) = aW m c := funext fun b => funext fun l => congrFun m6 (ix2 b l)
    have e7 : Cert.ReferenceIdeal.Whole.rB (StableHlo.launchContents m' c) = aB m c := funext fun y => congrFun m7 (ix1 y)
    have hA : ∀ b y, Cert.ReferenceIdeal.Value.res_main_v76 (StableHlo.launchContents m' c) (ix2 b y)
        = Cert.Model.ans (aX m c) (aE m c) (aC m c) (aD m c) (aU m c) (aW m c) (aB m c) b y := fun b y => by
      rw [← e0, ← e2, ← e3, ← e4, ← e5, ← e6, ← e7]
      exact Cert.ReferenceIdeal.Whole.v76_val _ (by rw [e0]; exact hx c) (by rw [e5]; exact hu c) b y
    refine ⟨(h c).1.trans (funext fun i => ?_), (h c).2.1.trans (funext fun i => ?_), (h c).2.2⟩
    · obtain ⟨b, y, rfl⟩ : ∃ (b : Fin 8) (y : Fin 8921), i = ix2 b y := ⟨i 0, i 1, eq_ix2 i⟩
      exact (hA b y).trans ((congrFun (Cert.KernelIdeal.Whole.W15_y m g c) _).trans (Cert.KernelIdeal.Whole.y_val m g c (hz c) (hu c) b y)).symm
    · exact (Cert.ReferenceIdeal.Whole.refLoss_val (Cert.ReferenceIdeal.Value.res_main_v76 (StableHlo.launchContents m' c)) (StableHlo.launchContents m' c (Proc.devRef .tc Cert.ReferenceIdeal.main_arg1)) _ (aT m c) hA (fun b y => congrFun m1 (ix2 b y)) i).trans
        (Cert.KernelIdeal.Whole.loss_val m g c (hz c) (hu c) i).symm

/-- Everything claimed. -/
theorem claim : Cert.Claim := ⟨Cert.Kernel.Gen.facts, Cert.KernelIdeal.Gen.facts, Cert.ReferenceIdeal.Gen.facts, Cert.Pre_in_range.Gen.facts, Cert.Pre_pre.Gen.facts,
  frame_kernel, frame_ideal, frame_ideal_pre, frame_reference, fun m g _ => frame_reference m g trivial,
  IdealRules.named_const.statement Cert.KernelIdeal.κ "log2e" .f32 0x3FB8AA3B#32 (((Real.log 2)⁻¹ : ℝ) : EReal) rfl, same_results⟩

end Cert.Proof

end
